-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x2048x32 : Shape := ⟨3, ![8, 2048, 32]⟩
abbrev S8x2048x1024 : Shape := ⟨3, ![8, 2048, 1024]⟩
abbrev S16384x4096 : Shape := ⟨2, ![16384, 4096]⟩
abbrev S16384x32 : Shape := ⟨2, ![16384, 32]⟩
abbrev S16384x1024 : Shape := ⟨2, ![16384, 1024]⟩
abbrev S4096x1024 : Shape := ⟨2, ![4096, 1024]⟩
abbrev S32x4x4096 : Shape := ⟨3, ![32, 4, 4096]⟩
abbrev S32x4x1024 : Shape := ⟨3, ![32, 4, 1024]⟩
abbrev S512x4096 : Shape := ⟨2, ![512, 4096]⟩
abbrev S512x32 : Shape := ⟨2, ![512, 32]⟩
abbrev S512x1024 : Shape := ⟨2, ![512, 1024]⟩
abbrev S1x4x4096 : Shape := ⟨3, ![1, 4, 4096]⟩
abbrev S1x4x1024 : Shape := ⟨3, ![1, 4, 1024]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S256x128 : Shape := ⟨2, ![256, 128]⟩
abbrev S1x1x128 : Shape := ⟨3, ![1, 1, 128]⟩
abbrev S512x512 : Shape := ⟨2, ![512, 512]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x4096, .fp8e4m3⟩
  | .hbm, ⟨1, _⟩ => ⟨S8x2048x32, .f32⟩
  | .hbm, ⟨2, _⟩ => ⟨S8x2048x1024, .bf16⟩
  | .hbm, ⟨3, _⟩ => ⟨S16384x4096, .fp8e4m3⟩
  | .hbm, ⟨4, _⟩ => ⟨S16384x32, .f32⟩
  | .hbm, ⟨5, _⟩ => ⟨S16384x1024, .bf16⟩
  | .hbm, ⟨6, _⟩ => ⟨S4096x1024, .f32⟩
  | .hbm, ⟨7, _⟩ => ⟨S16384x4096, .fp8e4m3⟩
  | .hbm, ⟨8, _⟩ => ⟨S32x4x4096, .f32⟩
  | .hbm, ⟨9, _⟩ => ⟨S16384x1024, .fp8e4m3⟩
  | .hbm, ⟨10, _⟩ => ⟨S32x4x1024, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x32, .f32⟩
  | .local _ .vmem, ⟨3, _⟩ => ⟨S512x32, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .f32⟩
  | .local _ .vmem, ⟨7, _⟩ => ⟨S512x4096, .fp8e4m3⟩
  | .local _ .vmem, ⟨8, _⟩ => ⟨S512x4096, .fp8e4m3⟩
  | .local _ .vmem, ⟨9, _⟩ => ⟨S1x4x4096, .f32⟩
  | .local _ .vmem, ⟨10, _⟩ => ⟨S1x4x4096, .f32⟩
  | .local _ .vmem, ⟨11, _⟩ => ⟨S512x1024, .fp8e4m3⟩
  | .local _ .vmem, ⟨12, _⟩ => ⟨S512x1024, .fp8e4m3⟩
  | .local _ .vmem, ⟨13, _⟩ => ⟨S1x4x1024, .f32⟩
  | .local _ .vmem, ⟨14, _⟩ => ⟨S1x4x1024, .f32⟩
  | .local _ .vmem, ⟨15, _⟩ => ⟨S512x4096, .bf16⟩
  | .local _ .vmem, ⟨16, _⟩ => ⟨S512x1024, .bf16⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x2048x4096 : Shape := ⟨3, ![8, 2048, 4096]⟩
abbrev S8x2048x32 : Shape := ⟨3, ![8, 2048, 32]⟩
abbrev S8x2048x1024 : Shape := ⟨3, ![8, 2048, 1024]⟩
abbrev S16384x4096 : Shape := ⟨2, ![16384, 4096]⟩
abbrev S16384x32 : Shape := ⟨2, ![16384, 32]⟩
abbrev S16384x1024 : Shape := ⟨2, ![16384, 1024]⟩
abbrev S4096x1024 : Shape := ⟨2, ![4096, 1024]⟩
abbrev S32x4x4096 : Shape := ⟨3, ![32, 4, 4096]⟩
abbrev S32x4x1024 : Shape := ⟨3, ![32, 4, 1024]⟩
abbrev S16384x32x128 : Shape := ⟨3, ![16384, 32, 128]⟩
abbrev S16384x32x1 : Shape := ⟨3, ![16384, 32, 1]⟩
abbrev S128x128x4096 : Shape := ⟨3, ![128, 128, 4096]⟩
abbrev S128x4096 : Shape := ⟨2, ![128, 4096]⟩
abbrev S246x1x1 : Shape := ⟨3, ![246, 1, 1]⟩
abbrev S1x128x4096 : Shape := ⟨3, ![1, 128, 4096]⟩
abbrev S246x128x4096 : Shape := ⟨3, ![246, 128, 4096]⟩
abbrev S128x1x4096 : Shape := ⟨3, ![128, 1, 4096]⟩
abbrev S128x128x1024 : Shape := ⟨3, ![128, 128, 1024]⟩
abbrev S128x1024 : Shape := ⟨2, ![128, 1024]⟩
abbrev S1x128x1024 : Shape := ⟨3, ![1, 128, 1024]⟩
abbrev S246x128x1024 : Shape := ⟨3, ![246, 128, 1024]⟩
abbrev S128x1x1024 : Shape := ⟨3, ![128, 1, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x4096, .fp8e4m3⟩
  | .hbm, ⟨1, _⟩ => ⟨S8x2048x32, .f32⟩
  | .hbm, ⟨2, _⟩ => ⟨S8x2048x1024, .bf16⟩
  | .hbm, ⟨3, _⟩ => ⟨S16384x4096, .fp8e4m3⟩
  | .hbm, ⟨4, _⟩ => ⟨S16384x32, .f32⟩
  | .hbm, ⟨5, _⟩ => ⟨S16384x1024, .bf16⟩
  | .hbm, ⟨6, _⟩ => ⟨S4096x1024, .f32⟩
  | .hbm, ⟨7, _⟩ => ⟨S16384x4096, .fp8e4m3⟩
  | .hbm, ⟨8, _⟩ => ⟨S32x4x4096, .f32⟩
  | .hbm, ⟨9, _⟩ => ⟨S16384x1024, .fp8e4m3⟩
  | .hbm, ⟨10, _⟩ => ⟨S32x4x1024, .f32⟩
  | .local _ .vmem, ⟨0, _⟩ => ⟨S16384x4096, .fp8e4m3⟩
  | .local _ .vmem, ⟨1, _⟩ => ⟨S16384x32, .f32⟩
  | .local _ .vmem, ⟨2, _⟩ => ⟨S16384x1024, .bf16⟩
  | .local _ .vmem, ⟨3, _⟩ => ⟨S4096x1024, .f32⟩
  | .local _ .vmem, ⟨4, _⟩ => ⟨S16384x4096, .fp8e4m3⟩
  | .local _ .vmem, ⟨5, _⟩ => ⟨S32x4x4096, .f32⟩
  | .local _ .vmem, ⟨6, _⟩ => ⟨S16384x1024, .fp8e4m3⟩
  | .local _ .vmem, ⟨7, _⟩ => ⟨S32x4x1024, .f32⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16384x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Quant.Scale.lean ====
module

public import Idealize.ShloMosaic.PureOps.Ideal.Laws
public import Idealize.ShloMosaic.Lib.Pointwise

@[expose] public section

noncomputable section

namespace Cert.Quant

open Idealize.ShloMosaic

/-! ## The powers of two the exponent patterns denote -/

/-- The power of two of exponent field `j`: `2^(j - 127)`. -/
def P (j : ℕ) : EReal := (((2 : ℝ) ^ ((j : ℤ) - 127) : ℝ) : EReal)

/-- The powers increase strictly, -/
theorem P_lt {i j : ℕ} (h : i < j) : P i < P j :=
  EReal.coe_lt_coe_iff.2 (zpow_lt_zpow_right₀ (by norm_num) (by omega))

/-- and so weakly. -/
theorem P_le {i j : ℕ} (h : i ≤ j) : P i ≤ P j := by
  rcases h.lt_or_eq with h | rfl
  · exact (P_lt h).le
  · exact le_rfl

/-- The word whose exponent field is `j`. -/
def word (j : ℕ) : BitVec 32 := IntOp.shli ArithUnit.vector (BitVec.ofNat 32 j) 23#32

/-- The word is the number shifted up 23 places. -/
theorem word_eq (j : ℕ) : word j = BitVec.ofNat 32 j <<< 23 := by
  unfold word IntOp.shli
  rw [if_pos (by decide)]
  rfl

/-- A word of exponent field `j`, `1 ≤ j ≤ 254`, and nothing else, denotes `2^(j - 127)`. -/
theorem ofBits_word {j : ℕ} (h1 : 1 ≤ j) (h2 : j ≤ 254) : Ideal.ofBits .f32 (word j) = P j := by
  have key : ∀ k : Fin 256, ((BitVec.ofNat 32 k.val <<< 23).extractLsb' 31 1 == 1#1) = false
      ∧ ((BitVec.ofNat 32 k.val <<< 23).extractLsb' 23 8).toNat = k.val
      ∧ ((BitVec.ofNat 32 k.val <<< 23).extractLsb' 0 23).toNat = 0 := by decide +kernel
  obtain ⟨ha, hb, hc⟩ := key ⟨j, by omega⟩
  have hq : ∀ b : BitVec 32, (b.extractLsb' 31 1 == 1#1) = false → (b.extractLsb' 23 8).toNat = j →
      (b.extractLsb' 0 23).toNat = 0 → Ideal.ieee 8 23 b = P j := by
    intro b ha hb hc
    unfold Ideal.ieee
    simp only [show 8 + 23 = 31 from rfl, ha, hb, hc]
    rw [if_neg (by norm_num; omega), if_neg (by omega)]
    unfold P
    rw [EReal.coe_eq_coe_iff]
    simp only [Bool.false_eq_true, if_false, one_mul, Nat.cast_add, Nat.cast_pow, Nat.cast_ofNat, Nat.cast_zero, add_zero]
    rw [← zpow_natCast (2 : ℝ) 23, ← zpow_add₀ (by norm_num)]
    have he : ((23 : ℕ) : ℤ) + ((j : ℤ) - (2 ^ (8 - 1) - 1) - ((23 : ℕ) : ℤ)) = (j : ℤ) - 127 := by norm_num
    exact congrArg (HPow.hPow (2 : ℝ)) he
  show Ideal.ieee 8 23 (word j) = _
  rw [word_eq]
  exact hq _ ha hb hc

/-- The word of field 0 denotes 0. -/
theorem ofBits_word_zero : Ideal.ofBits .f32 (word 0) = 0 := by
  show Ideal.ieee 8 23 (word 0) = _
  rw [word_eq]
  unfold Ideal.ieee
  simp

/-- The word of field 255 denotes infinity. -/
theorem ofBits_word_top : Ideal.ofBits .f32 (word 255) = ⊤ := by
  have key : ((BitVec.ofNat 32 255 <<< 23).extractLsb' 31 1 == 1#1) = false
      ∧ ((BitVec.ofNat 32 255 <<< 23).extractLsb' 23 8).toNat = 255
      ∧ ((BitVec.ofNat 32 255 <<< 23).extractLsb' 0 23).toNat = 0 := by decide +kernel
  obtain ⟨ha, hb, hc⟩ := key
  show Ideal.ieee 8 23 (word 255) = _
  rw [word_eq]
  unfold Ideal.ieee
  simp only [show 8 + 23 = 31 from rfl, ha, hb, hc]
  norm_num

/-- The upper end of the range is `2^120`. -/
theorem ofBits_hi : Ideal.ofBits .f32 0x7B800000#32 = P 247 := by
  rw [show (0x7B800000#32) = word 247 by rw [word_eq]; decide]
  exact ofBits_word (by norm_num) (by norm_num)

/-- The lower end of the range is `2^-126`. -/
theorem ofBits_lo : Ideal.ofBits .f32 0x00800000#32 = P 1 := by
  rw [show (0x00800000#32) = word 1 by rw [word_eq]; decide]
  exact ofBits_word (by norm_num) (by norm_num)

/-- The pattern of infinity denotes infinity. -/
theorem ofBits_inf : Ideal.ofBits .f32 0x7F800000#32 = ⊤ := by
  rw [show (0x7F800000#32) = word 255 by rw [word_eq]; decide]
  exact ofBits_word_top

/-- The power of field 127 is 1. -/
theorem P_127 : P 127 = 1 := by simp [P]

/-- The power of two above an entry of the reference's table. -/
theorem exp2_table (i : ℕ) (h : i < 246) :
    Ideal.exp2 (((IntOp.subi (BitVec.ofNat 32 i) 125#32).toInt : ℝ) : EReal) = P (i + 2) := by
  have key : ∀ k : Fin 246, (IntOp.subi (BitVec.ofNat 32 k.val) 125#32).toInt = (k.val : ℤ) - 125 := by
    decide +kernel
  rw [key ⟨i, h⟩, Ideal.exp2_coe]
  unfold P
  congr 1
  show (2 : ℝ) ^ ((((i : ℤ) - 125 : ℤ) : ℝ)) = _
  rw [Real.rpow_intCast]
  congr 1
  push_cast
  ring

/-! ## The kernel's exponent field and scales -/

/-- The exponent field of `t`: the greatest `j` whose power of two is at most `t`, 255 past the range. -/
def kBe (t : EReal) : BitVec 32 :=
  if t < Ideal.ofBits .f32 0x7B800000#32 then
    Finset.fold IntOp.maxsi (2147483648#32)
      (fun x : Fin 256 => if Ideal.ofBits .f32 (word x.val) ≤ t then BitVec.ofNat 32 x.val else 0#32) Finset.univ
  else 255#32

/-- The exponent field of the scale: one above that of `t`, and that of one at either end. -/
def kExp (t : EReal) : BitVec 32 :=
  Scalar.select (IntOp.ori (IntOp.cmpi CmpIPredicate.eq (kBe t) 0#32) (IntOp.cmpi CmpIPredicate.eq (kBe t) 255#32))
    127#32 (IntOp.addi (kBe t) 1#32)

/-- The kernel's scale. -/
def kScale (t : EReal) : EReal := Ideal.ofBits .f32 (IntOp.shli ArithUnit.vector (kExp t) 23#32)

/-- The kernel's reciprocal of the scale. -/
def kInv (t : EReal) : EReal := Ideal.ofBits .f32 (IntOp.shli ArithUnit.vector (IntOp.subi 254#32 (kExp t)) 23#32)

/-- The least power of two of the table above `t`. -/
def rLeast (t : EReal) : EReal :=
  Finset.fold min (Ideal.ofBits .f32 0x7F800000#32)
    (fun x : Fin 246 =>
      if t < Ideal.exp2 (((IntOp.subi (BitVec.ofNat 32 x.val) 125#32).toInt : ℝ) : EReal) then
        Ideal.exp2 (((IntOp.subi (BitVec.ofNat 32 x.val) 125#32).toInt : ℝ) : EReal)
      else Ideal.ofBits .f32 0x7F800000#32) Finset.univ

/-- The reference's scale. -/
def rScale (t : EReal) : EReal :=
  Scalar.select (IntOp.andi (BitVec.ofBool (decide (Ideal.ofBits .f32 0x00800000#32 ≤ t)))
    (BitVec.ofBool (decide (t < Ideal.ofBits .f32 0x7B800000#32)))) (rLeast t) 1

/-- The signed maximum of two words, as an integer. -/
theorem maxsi_toInt (x y : BitVec 32) : (IntOp.maxsi x y).toInt = max x.toInt y.toInt := by
  unfold IntOp.maxsi
  split <;> rename_i h <;> simp [BitVec.slt] at h <;> omega

/-- A signed maximum over a finite set is the value that is taken and that no other exceeds. -/
theorem fold_maxsi_eq {n : ℕ} (f : Fin n → BitVec 32) (j : Fin n) (h : ∀ i, (f i).toInt ≤ (f j).toInt) :
    Finset.fold IntOp.maxsi (2147483648#32) f Finset.univ = f j := by
  apply BitVec.toInt_inj.1
  have hm := Finset.fold_hom (op := IntOp.maxsi) (op' := (max : ℤ → ℤ → ℤ)) (b := 2147483648#32) (f := f)
    (s := Finset.univ) (m := BitVec.toInt) maxsi_toInt
  rw [← hm]
  apply le_antisymm
  · refine (Finset.fold_max_le _).2 ⟨?_, fun i _ => h i⟩
    have := BitVec.le_toInt (f j)
    simpa using this
  · exact (Finset.le_fold_max _).2 (Or.inr ⟨j, Finset.mem_univ _, le_rfl⟩)

/-- A value between `f a` and `f b` lies between two neighbouring values of `f`. -/
theorem exists_step (f : ℕ → EReal) (t : EReal) (a : ℕ) : ∀ b : ℕ, a ≤ b → f a ≤ t → t < f b →
    ∃ n, a ≤ n ∧ n < b ∧ f n ≤ t ∧ t < f (n + 1) := by
  intro b
  induction b with
  | zero =>
    intro h0 h1 h2
    obtain rfl : a = 0 := by omega
    exact absurd h2 (not_lt.2 h1)
  | succ b ih =>
    intro h0 h1 h2
    by_cases hb : f b ≤ t
    · by_cases hab : a ≤ b
      · exact ⟨b, hab, by omega, hb, h2⟩
      · obtain rfl : a = b + 1 := by omega
        exact absurd h2 (not_lt.2 h1)
    · push Not at hb
      by_cases hab : a ≤ b
      · obtain ⟨n, h3, h4, h5, h6⟩ := ih hab h1 hb
        exact ⟨n, h3, by omega, h5, h6⟩
      · obtain rfl : a = b + 1 := by omega
        exact absurd h2 (not_lt.2 h1)

/-- A number below 256 is read back from its word. -/
theorem toInt_small {n : ℕ} (h : n < 256) : (BitVec.ofNat 32 n).toInt = n := by
  rw [BitVec.toInt_ofNat']
  simp only [Int.bmod]
  omega

/-- Below the least normal number the exponent field reads 0. -/
theorem kBe_low {t : EReal} (h : t < P 1) : kBe t = 0#32 := by
  unfold kBe
  rw [if_pos (by rw [ofBits_hi]; exact h.trans (P_lt (by norm_num)))]
  have hz : ∀ i : Fin 256, (if Ideal.ofBits .f32 (word i.val) ≤ t then BitVec.ofNat 32 i.val else 0#32) = 0#32 := by
    intro i
    by_cases hi : Ideal.ofBits .f32 (word i.val) ≤ t
    · rw [if_pos hi]
      by_contra hne
      have h0 : 1 ≤ i.val := by
        rcases Nat.eq_zero_or_pos i.val with h0 | h0
        · rw [h0] at hne; exact absurd rfl hne
        · exact h0
      by_cases h255 : i.val = 255
      · rw [h255, ofBits_word_top] at hi
        exact absurd (lt_of_le_of_lt hi h) (not_lt.2 le_top)
      · rw [ofBits_word h0 (by have := i.isLt; omega)] at hi
        exact absurd (lt_of_le_of_lt hi h) (not_lt.2 (P_le h0))
    · rw [if_neg hi]
  refine (fold_maxsi_eq _ ⟨0, by norm_num⟩ fun i => ?_).trans (hz _)
  rw [hz, hz]

/-- In range the exponent field reads `n` for `2^(n-127) ≤ t < 2^(n-126)`. -/
theorem kBe_mid {t : EReal} {n : ℕ} (h1 : 1 ≤ n) (h2 : n ≤ 246) (hl : P n ≤ t) (hu : t < P (n + 1)) :
    kBe t = BitVec.ofNat 32 n := by
  unfold kBe
  rw [if_pos (by rw [ofBits_hi]; exact hu.trans_le (P_le (by omega)))]
  have hn : (if Ideal.ofBits .f32 (word n) ≤ t then BitVec.ofNat 32 n else 0#32) = BitVec.ofNat 32 n := by
    rw [if_pos (by rw [ofBits_word h1 (by omega)]; exact hl)]
  refine (fold_maxsi_eq _ ⟨n, by omega⟩ fun i => ?_).trans hn
  show _ ≤ (if Ideal.ofBits .f32 (word n) ≤ t then BitVec.ofNat 32 n else 0#32).toInt
  rw [hn, toInt_small (by omega)]
  by_cases hi : Ideal.ofBits .f32 (word i.val) ≤ t
  · rw [if_pos hi, toInt_small i.isLt]
    by_contra hlt
    have hlt : n + 1 ≤ i.val := by omega
    by_cases h255 : i.val = 255
    · rw [h255, ofBits_word_top] at hi
      exact absurd (lt_of_le_of_lt hi hu) (not_lt.2 le_top)
    · rw [ofBits_word (by omega) (by have := i.isLt; omega)] at hi
      exact absurd (lt_of_le_of_lt hi hu) (not_lt.2 (P_le hlt))
  · rw [if_neg hi]
    simp

/-- From `2^120` on the exponent field reads 255. -/
theorem kBe_high {t : EReal} (h : P 247 ≤ t) : kBe t = 255#32 := by
  unfold kBe
  rw [if_neg (by rw [ofBits_hi]; exact not_lt.2 h)]

/-- For `t` between two neighbouring powers the reference's least power above `t` is the upper one. -/
theorem rLeast_eq {t : EReal} {n : ℕ} (h1 : 1 ≤ n) (h2 : n ≤ 246) (hl : P n ≤ t) (hu : t < P (n + 1)) :
    rLeast t = P (n + 1) := by
  unfold rLeast
  rw [ofBits_inf]
  apply le_antisymm
  · refine (Finset.fold_min_le _).2 (Or.inr ⟨⟨n - 1, by omega⟩, Finset.mem_univ _, ?_⟩)
    rw [exp2_table _ (by show n - 1 < 246; omega), show n - 1 + 2 = n + 1 by omega, if_pos hu]
  · refine (Finset.le_fold_min _).2 ⟨le_top, fun i _ => ?_⟩
    rw [exp2_table _ i.isLt]
    split
    · rename_i h
      apply P_le
      by_contra hlt
      exact absurd (lt_of_lt_of_le h (P_le (by omega : i.val + 2 ≤ n))) (not_lt.2 hl)
    · exact le_top

/-- A true condition selects the first value, -/
theorem select_true {α : Type} (x y : α) : Scalar.select 1#1 x y = x := rfl
/-- a false one the second. -/
theorem select_false {α : Type} (x y : α) : Scalar.select 0#1 x y = y := rfl

/-- Exponent 0 gives field 127, -/
theorem kExp_low {t : EReal} (h : kBe t = 0#32) : kExp t = 127#32 := by
  unfold kExp; rw [h]; rfl

/-- so does exponent 255, -/
theorem kExp_high {t : EReal} (h : kBe t = 255#32) : kExp t = 127#32 := by
  unfold kExp; rw [h]; rfl

/-- and any other gives the next field. -/
theorem kExp_mid {t : EReal} {n : ℕ} (h1 : 1 ≤ n) (h2 : n ≤ 246) (h : kBe t = BitVec.ofNat 32 n) :
    kExp t = BitVec.ofNat 32 (n + 1) := by
  have key : ∀ k : Fin 247, 1 ≤ k.val →
      Scalar.select (IntOp.ori (IntOp.cmpi CmpIPredicate.eq (BitVec.ofNat 32 k.val) 0#32)
        (IntOp.cmpi CmpIPredicate.eq (BitVec.ofNat 32 k.val) 255#32)) 127#32 (IntOp.addi (BitVec.ofNat 32 k.val) 1#32)
      = BitVec.ofNat 32 (k.val + 1) := by decide +kernel
  unfold kExp; rw [h]; exact key ⟨n, by omega⟩ h1

/-- Subtraction of small numbers from 254, on words. -/
theorem sub_word {s : ℕ} (h : s ≤ 254) : IntOp.subi 254#32 (BitVec.ofNat 32 s) = BitVec.ofNat 32 (254 - s) := by
  have key : ∀ k : Fin 255, IntOp.subi 254#32 (BitVec.ofNat 32 k.val) = BitVec.ofNat 32 (254 - k.val) := by
    decide +kernel
  exact key ⟨s, by omega⟩

/-- The reciprocal of a power is the power of the mirrored field. -/
theorem div_P {s : ℕ} (h : s ≤ 254) : Ideal.div 1 (P s) = P (254 - s) := by
  have hp : ((2 : ℝ) ^ ((s : ℤ) - 127)) ≠ 0 := by positivity
  unfold P
  rw [Ideal.div_coe hp, one_mul]
  congr 1
  rw [one_div, ← zpow_neg]
  congr 1
  push_cast [h]
  ring

/-- With exponent field `s` the scale is `2^(s-127)` and its reciprocal pattern the exact reciprocal. -/
theorem scale_of_exp {t : EReal} {s : ℕ} (h1 : 1 ≤ s) (h2 : s ≤ 253) (h : kExp t = BitVec.ofNat 32 s) :
    kScale t = P s ∧ kInv t = P (254 - s) := by
  constructor
  · unfold kScale; rw [h]; exact ofBits_word h1 (by omega)
  · unfold kInv; rw [h, sub_word (by omega)]; exact ofBits_word (by omega) (by omega)

/-- The kernel's scale, from the exponent fields, is the reference's least power of two above `t`, and its
    reciprocal pattern is one over it: for every extended real. -/
theorem scale_eq (t : EReal) : kScale t = rScale t ∧ kInv t = Ideal.div 1 (rScale t) := by
  rcases lt_or_ge t (P 1) with hlo | hlo
  · obtain ⟨a, b⟩ := scale_of_exp (t := t) (s := 127) (by norm_num) (by norm_num) (kExp_low (kBe_low hlo))
    have hr : rScale t = P 127 := by
      unfold rScale
      rw [ofBits_lo, ofBits_hi, decide_eq_false (not_le.2 hlo), P_127]
      cases decide (t < P 247) <;> rfl
    rw [hr, div_P (by norm_num)]
    exact ⟨a, b⟩
  rcases lt_or_ge t (P 247) with hhi | hhi
  · obtain ⟨n, h1, h2, h3, h4⟩ := exists_step P t 1 247 (by norm_num) hlo hhi
    obtain ⟨a, b⟩ := scale_of_exp (t := t) (s := n + 1) (by omega) (by omega)
      (kExp_mid h1 (by omega) (kBe_mid h1 (by omega) h3 h4))
    have hr : rScale t = P (n + 1) := by
      unfold rScale
      rw [ofBits_lo, ofBits_hi, decide_eq_true hlo, decide_eq_true hhi]
      exact rLeast_eq h1 (by omega) h3 h4
    rw [hr, div_P (by omega)]
    exact ⟨a, b⟩
  · obtain ⟨a, b⟩ := scale_of_exp (t := t) (s := 127) (by norm_num) (by norm_num) (kExp_high (kBe_high hhi))
    have hr : rScale t = P 127 := by
      unfold rScale
      rw [ofBits_lo, ofBits_hi, decide_eq_false (not_lt.2 hhi), P_127]
      cases decide (P 1 ≤ t) <;> rfl
    rw [hr, div_P (by norm_num)]
    exact ⟨a, b⟩

end Cert.Quant
-- ==== Proof.Quant.Tile.lean ====
module

public import proofs.«01_k».proof.Proof.Gen.KernelIdeal
public import Idealize.ShloMosaic.Lib.Pointwise
public import Idealize.ShloMosaic.Lib.ValueIdx
public import proofs.«01_k».proof.Proof.Quant.Scale

@[expose] public section

noncomputable section

namespace Cert.Quant

open Cert.KernelIdeal Cert.KernelIdeal.Gen Idealize.ShloMosaic Idealize.SL.Sem

variable {F : FTy → Type} [FloatOps F]

/-- A tile of the forward operand widened: the stored codes times their row's scale. -/
def xval (v0 : Vec F S128x128 .fp8e4m3) (v3 : Vec F S128x1 .f32) : FVec F S128x128 .f32 :=
  mulf (extf .f32 (shapeCast S128x128 v0 shapeCasts_S128x128_S128x128) bitsLt_fp8e4m3_f32)
    (broadcastTo S128x128 (shapeCast S128x1 v3 shapeCasts_S128x1_S128x1) broadcasts_S128x1_S128x128)

/-- A tile of the gradient widened. -/
def gval (v0 : Vec F S128x128 .bf16) : FVec F S128x128 .f32 :=
  extf .f32 (shapeCast S128x128 v0 shapeCasts_S128x128_S128x128) bitsLt_bf16_f32

/-- The greatest magnitude of each column, over 448. -/
def tOf (v : FVec F S128x128 .f32) : FVec F S1x128 .f32 :=
  mulf (shapeCast S1x128 (multiReduction .maximumf [0] S128 (absf v) 0xFF800000#32 reduces_S128x128_S128 (.inl rfl) rfl) shapeCasts_S128_S1x128)
    (broadcast S1x128 (Scalar.ofBits .f32 0x3B124925#32))

/-- The exponent field read off the table, 255 past the range. -/
def beOf (t : FVec F S1x128 .f32) : IVec S1x128 32 :=
  select (cmpf .olt t (broadcast S1x128 (Scalar.ofBits .f32 0x7B800000#32)))
    (shapeCast S1x128 (multiReductionI .maxsi [0] S128
      (select (cmpf .ole (bitcastToFloat .f32 (shli (iota .tc S256x128 32 [0] iota_S256x128_d0_w32) (broadcast S256x128 23#32)))
          (broadcastTo S256x128 t broadcasts_S1x128_S256x128))
        (iota .tc S256x128 32 [0] iota_S256x128_d0_w32) (broadcast S256x128 0#32))
      2147483648#32 reduces_S256x128_S128 rfl) shapeCasts_S128_S1x128)
    (broadcast S1x128 255#32)

/-- The exponent field of the scale. -/
def expOf (v : FVec F S128x128 .f32) : IVec S1x128 32 :=
  select (ori (cmpi .eq (beOf (tOf v)) (broadcast S1x128 0#32)) (cmpi .eq (beOf (tOf v)) (broadcast S1x128 255#32)))
    (broadcast S1x128 127#32) (addi (beOf (tOf v)) (broadcast S1x128 1#32))

/-- The scale of each column. -/
def scaleOf (v : FVec F S128x128 .f32) : FVec F S1x128 .f32 :=
  bitcastToFloat .f32 (shli (expOf v) (broadcast S1x128 23#32))

/-- The reciprocal of the scale of each column. -/
def invOf (v : FVec F S128x128 .f32) : FVec F S1x128 .f32 :=
  bitcastToFloat .f32 (shli (subi (broadcast S1x128 254#32) (expOf v)) (broadcast S1x128 23#32))

/-- The codes of the tile. -/
def codeOf (v : FVec F S128x128 .f32) : FVec F S128x128 .fp8e4m3 :=
  truncf .fp8e4m3
    (minimumf (broadcast S128x128 (Scalar.ofBits .f32 0x43E00000#32))
      (maximumf (broadcast S128x128 (Scalar.ofBits .f32 0xC3E00000#32))
        (mulf v (broadcastTo S128x128 (invOf v) broadcasts_S1x128_S128x128)))) bitsLt_fp8e4m3_f32

/-- The scales as the block of the scale array. -/
def scaleRow (v : FVec F S128x128 .f32) : FVec F S1x1x128 .f32 :=
  shapeCast S1x1x128 (scaleOf v) shapeCasts_S1x128_S1x1x128

/-- The codes times their scales. -/
def wideOf (v : FVec F S128x128 .f32) : FVec F S128x128 .bf16 :=
  shapeCast S128x128
    (mulf (extf .bf16 (codeOf v) bitsLt_fp8e4m3_bf16)
      (broadcastTo S128x128 (truncf .bf16 (scaleOf v) bitsLt_bf16_f32) broadcasts_S1x128_S128x128))
    shapeCasts_S128x128_S128x128

/-- The greatest magnitude of a column of 128 values, over 448. -/
def colT (f : Fin 128 → EReal) : EReal :=
  Finset.fold max (Ideal.ofBits .f32 0xFF800000#32) (fun x => FloatOps.absf (F := Ideal) (φ := .f32) (f x)) Finset.univ
    * Ideal.ofBits .f32 0x3B124925#32

/-- The code of the value `x` of a column whose scaled maximum is `t`: the value over the scale, clipped to ±448. -/
def qcode (t x : EReal) : EReal :=
  min (Ideal.ofBits .f32 0x43E00000#32) (max (Ideal.ofBits .f32 0xC3E00000#32) (x * Ideal.div 1 (rScale t)))

/-- The scaled maximum of a tile's column. -/
theorem tOf_apply (v : FVec Ideal S128x128 .f32) (j : S1x128.Idx) : tOf v j = colT fun r => v (ix2 r (j 1)) := by
  pointwise [tOf]
  rfl

/-- The exponent field of a column's scale, as a function of its scaled maximum. -/
theorem expOf_apply (v : FVec Ideal S128x128 .f32) (j : S1x128.Idx) : expOf v j = kExp (tOf v j) := by
  rw [eq_ix2 j]
  obtain ⟨a, ha⟩ : ∃ a : Fin 1, j 0 = a := ⟨j 0, rfl⟩
  obtain ⟨b, hb⟩ : ∃ b : Fin 128, j 1 = b := ⟨j 1, rfl⟩
  rw [ha, hb]
  obtain rfl : a = 0 := Subsingleton.elim _ _
  pointwise [expOf, beOf]
  rfl

/-- The scale of a column is the reference's. -/
theorem scaleOf_apply (v : FVec Ideal S128x128 .f32) (j : S1x128.Idx) :
    scaleOf v j = rScale (colT fun r => v (ix2 r (j 1))) := by
  rw [← tOf_apply, ← (scale_eq _).1, kScale, ← expOf_apply]
  rfl

/-- The reciprocal is that of the reference's scale. -/
theorem invOf_apply (v : FVec Ideal S128x128 .f32) (j : S1x128.Idx) :
    invOf v j = Ideal.div 1 (rScale (colT fun r => v (ix2 r (j 1)))) := by
  rw [← tOf_apply, ← (scale_eq _).2, kInv, ← expOf_apply]
  rfl

/-- The code at a place of the tile. -/
theorem codeOf_apply (v : FVec Ideal S128x128 .f32) (j : S128x128.Idx) :
    codeOf v j = qcode (colT fun r => v (ix2 r (j 1))) (v j) := by
  have h := invOf_apply v (ix2 0 (j 1))
  pointwise [codeOf]
  rw [h]
  rfl

/-- The scale row at a place of the block. -/
theorem scaleRow_apply (v : FVec Ideal S128x128 .f32) (j : S1x1x128.Idx) :
    scaleRow v j = rScale (colT fun r => v (ix2 r (j 2))) := by
  have h := scaleOf_apply v (ix2 0 (j 2))
  pointwise [scaleRow]
  rw [h]
  rfl

/-- The widened code at a place of the tile. -/
theorem wideOf_apply (v : FVec Ideal S128x128 .f32) (j : S128x128.Idx) :
    wideOf v j = qcode (colT fun r => v (ix2 r (j 1))) (v j) * rScale (colT fun r => v (ix2 r (j 1))) := by
  have h := scaleOf_apply v (ix2 0 (j 1))
  have h' := codeOf_apply v j
  pointwise [wideOf]
  rw [h, h']
  rfl

/-- A widened tile of the forward operand at a place. -/
theorem xval_apply (v0 : Vec Ideal S128x128 .fp8e4m3) (v3 : Vec Ideal S128x1 .f32) (j : S128x128.Idx) :
    xval v0 v3 j = v0 j * v3 (ix2 (j 0) 0) := by
  pointwise [xval]

/-- A widened tile of the gradient at a place. -/
theorem gval_apply (v0 : Vec Ideal S128x128 .bf16) (j : S128x128.Idx) : gval v0 j = v0 j := by
  pointwise [gval]

end Cert.Quant
-- ==== Proof.Block.Pieces.lean ====
module

public import proofs.«01_k».proof.Proof.Gen.KernelIdeal.Frame
public import proofs.«01_k».proof.Proof.Quant.Tile

@[expose] public section

noncomputable section

namespace Cert.Block

open Cert.KernelIdeal Cert.KernelIdeal.Gen Cert.Quant Idealize.ShloMosaic Idealize.SL.Sem

variable {F : FTy → Type} [FloatOps F]

/-- A 128 by 128 tile inside the 512 rows and `N` columns lies in the block. -/
theorem inbTile {N o p : ℕ} (h : o + 128 ≤ 512) (h' : p + 128 ≤ N) :
    ∀ a, (![o, p] : Fin 2 → ℕ) a + S128x128.size a ≤ (⟨2, ![512, N]⟩ : Shape).size a :=
  Fin.forall_fin_two.2 ⟨h, h'⟩

/-- One column of 128 rows lies in the block. -/
theorem inbCol {N o p : ℕ} (h : o + 128 ≤ 512) (h' : p + 1 ≤ N) :
    ∀ a, (![o, p] : Fin 2 → ℕ) a + S128x1.size a ≤ (⟨2, ![512, N]⟩ : Shape).size a :=
  Fin.forall_fin_two.2 ⟨h, h'⟩

/-- One row of 128 columns lies in the block of four scale rows. -/
theorem inbRow {N o p : ℕ} (h : o + 1 ≤ 4) (h' : p + 128 ≤ N) :
    ∀ a, (![0, o, p] : Fin 3 → ℕ) a + S1x1x128.size a ≤ (⟨3, ![1, 4, N]⟩ : Shape).size a := by
  intro a
  match a with
  | ⟨0, _⟩ => exact Nat.le_refl 1
  | ⟨1, _⟩ => exact h
  | ⟨2, _⟩ => exact h'

/-- Tile number `n`, `nb` to a row group, lies in the 512 rows. -/
theorem row_le {nb n : ℕ} (h : n < 4 * nb) : 128 * (n / nb) + 128 ≤ 512 := by
  have : n / nb < 4 := Nat.div_lt_of_lt_mul (by rw [Nat.mul_comm]; exact h)
  omega

/-- Its column number is below the number of tiles in a row group. -/
theorem col_lt {nb n : ℕ} (h : n < 4 * nb) : n % nb < nb := Nat.mod_lt _ (by omega)

/-- It lies in the `N` columns. -/
theorem col_le {N nb n : ℕ} (hN : 128 * nb = N) (h : n < 4 * nb) : 128 * (n % nb) + 128 ≤ N := by
  have := col_lt h; omega

/-- The stores of one 128×128 value per tile, the last tile first: tile `n` of `nb` across is at row group `n / nb`, column
    group `n % nb`; its value is `f` of the widened tile. -/
def tilePieces {N nb : ℕ} {e : EltTy} (hN : 128 * nb = N) (f : FVec F S128x128 .f32 → Vec F S128x128 e)
    (T : (n : ℕ) → n < 4 * nb → FVec F S128x128 .f32) : (n : ℕ) → n ≤ 4 * nb → List (View.Piece (Elt F) ⟨2, ![512, N]⟩ e)
  | 0, _ => []
  | n + 1, h => ⟨Rect.unit ![128 * (n / nb), 128 * (n % nb)] S128x128.size (inbTile (row_le h) (col_le hN h)), f (T n h)⟩ ::
      tilePieces hN f T n (Nat.le_of_succ_le h)

/-- The stores of one row of scales per tile, the last tile first. -/
def rowPieces {N nb : ℕ} (hN : 128 * nb = N) (T : (n : ℕ) → n < 4 * nb → FVec F S128x128 .f32) :
    (n : ℕ) → n ≤ 4 * nb → List (View.Piece (Elt F) ⟨3, ![1, 4, N]⟩ .f32)
  | 0, _ => []
  | n + 1, h => ⟨Rect.unit ![0, n / nb, 128 * (n % nb)] S1x1x128.size
        (inbRow (Nat.div_lt_of_lt_mul (by rw [Nat.mul_comm]; exact h)) (col_le hN h)), scaleRow (T n h)⟩ ::
      rowPieces hN T n (Nat.le_of_succ_le h)

/-- Tile `n` of the forward operand, as the body loads and widens it. -/
def xT (arg1 : Memref sig .tc .vmem S512x4096 .fp8e4m3) (harg1 : arg1.IsWhole) (arg2 : Memref sig .tc .vmem S512x32 .f32) (harg2 : arg2.IsWhole)
    (x0 : Vec F S512x4096 .fp8e4m3) (x1 : Vec F S512x32 .f32) (n : ℕ) (h : n < 4 * 32) : FVec F S128x128 .f32 :=
  xval (View.readAt (Elt F) arg1.view (Rect.unit (s := S512x4096) ![128 * (n / 32), 128 * (n % 32)] S128x128.size
      (inbTile (row_le h) (col_le rfl h))).toLoadRect (harg1.unread x0))
    (View.readAt (Elt F) arg2.view (Rect.unit (s := S512x32) ![128 * (n / 32), n % 32] S128x1.size
      (inbCol (row_le h) (col_lt h))).toLoadRect (harg2.unread x1))

/-- Tile `n` of the gradient, as the body loads and widens it. -/
def gT (arg3 : Memref sig .tc .vmem S512x1024 .bf16) (harg3 : arg3.IsWhole)
    (x2 : Vec F S512x1024 .bf16) (n : ℕ) (h : n < 4 * 8) : FVec F S128x128 .f32 :=
  gval (View.readAt (Elt F) arg3.view (Rect.unit (s := S512x1024) ![128 * (n / 8), 128 * (n % 8)] S128x128.size
      (inbTile (row_le h) (col_le rfl h))).toLoadRect (harg3.unread x2))

/-- One step of the accumulation: a block of weights' gradient plus the product of 512 tokens. -/
def macc (a : Vec F S512x1024 .f32) (l : Vec F S512x512 .bf16) (r : Vec F S512x1024 .bf16) : FVec F S512x1024 .f32 :=
  addf (shapeCast S512x1024 a shapeCasts_S512x1024_S512x1024)
    (matmul dot_S512x512_S512x1024_S512x1024_0_0_1_1_n_n none l r (constant S512x1024 .f32 0x00000000#32))

/-- Row block `n` of the product lies in the product. -/
theorem inbAcc {n : ℕ} (h : n < 8) : ∀ a, (![512 * n, 0] : Fin 2 → ℕ) a + S512x1024.size a ≤ S4096x1024.size a :=
  Fin.forall_fin_two.2 ⟨show 512 * n + 512 ≤ 4096 by omega, Nat.le_refl 1024⟩

/-- Column block `n` of the widened operand lies in it. -/
theorem inbBand {n : ℕ} (h : n < 8) : ∀ a, (![0, 512 * n] : Fin 2 → ℕ) a + S512x512.size a ≤ S512x4096.size a :=
  Fin.forall_fin_two.2 ⟨Nat.le_refl 512, show 512 * n + 512 ≤ 4096 by omega⟩

/-- The whole widened gradient lies in itself. -/
theorem inbAll : ∀ a, (![0, 0] : Fin 2 → ℕ) a + S512x1024.size a ≤ S512x1024.size a :=
  Fin.forall_fin_two.2 ⟨Nat.le_refl 512, Nat.le_refl 1024⟩

/-- The whole product lies in itself. -/
theorem inbZero : ∀ a, (![0, 0] : Fin 2 → ℕ) a + S4096x1024.size a ≤ S4096x1024.size a :=
  Fin.forall_fin_two.2 ⟨Nat.le_refl 4096, Nat.le_refl 1024⟩

section Acc

variable (arg4 : Memref sig .tc .vmem S4096x1024 .f32) (harg4 : arg4.IsWhole)
  (arg9 : Memref sig .tc .vmem S512x4096 .bf16) (arg10 : Memref sig .tc .vmem S512x1024 .bf16)
  (W : List (View.Piece (Elt F) S512x4096 .bf16)) (G : List (View.Piece (Elt F) S512x1024 .bf16))

/-- The accumulation's stores at the first point, over the zero fill: the last block first. -/
def accFirst : (n : ℕ) → n ≤ 8 → List (View.Piece (Elt F) S4096x1024 .f32)
  | 0, _ => [⟨Rect.unit ![0, 0] S4096x1024.size inbZero, broadcast S4096x1024 (Scalar.ofBits .f32 0x00000000#32)⟩]
  | n + 1, h => ⟨Rect.unit ![512 * n, 0] S512x1024.size (inbAcc h),
      macc (arg4.view.readCov (accFirst n (Nat.le_of_succ_le h)) (Rect.unit (s := S4096x1024) ![512 * n, 0] S512x1024.size (inbAcc h)).toLoadRect)
        (arg9.view.readCov W (Rect.unit (s := S512x4096) ![0, 512 * n] S512x512.size (inbBand h)).toLoadRect)
        (arg10.view.readCov G (Rect.unit (s := S512x1024) ![0, 0] S512x1024.size inbAll).toLoadRect)⟩ :: accFirst n (Nat.le_of_succ_le h)

/-- The accumulation's stores at a later point, over what the point before left: the last block first. -/
def accNext (xo : Vec F S4096x1024 .f32) : (n : ℕ) → n ≤ 8 → List (View.Piece (Elt F) S4096x1024 .f32)
  | 0, _ => []
  | n + 1, h => ⟨Rect.unit ![512 * n, 0] S512x1024.size (inbAcc h),
      macc (View.readAt (Elt F) arg4.view (Rect.unit (s := S4096x1024) ![512 * n, 0] S512x1024.size (inbAcc h)).toLoadRect (harg4.unread xo))
        (arg9.view.readCov W (Rect.unit (s := S512x4096) ![0, 512 * n] S512x512.size (inbBand h)).toLoadRect)
        (arg10.view.readCov G (Rect.unit (s := S512x1024) ![0, 0] S512x1024.size inbAll).toLoadRect)⟩ :: accNext xo n (Nat.le_of_succ_le h)

end Acc

end Cert.Block
-- ==== Proof.Block.RunA.lean ====
module

public import proofs.«01_k».proof.Proof.Block.Pieces

@[expose] public section

noncomputable section

namespace Cert.Block

open Cert.KernelIdeal Cert.KernelIdeal.Gen Cert.Quant Idealize.ShloMosaic Idealize.SL.Sem

variable {F : FTy → Type} [FloatOps F]

variable (c : Dev nD) (i : grid0.Coords) (arg1 : Memref sig .tc .vmem S512x4096 .fp8e4m3) (harg1 : arg1.IsWhole) (arg2 : Memref sig .tc .vmem S512x32 .f32) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x4096 .fp8e4m3) (harg5 : arg5.IsWhole) (arg6 : Memref sig .tc .vmem S1x4x4096 .f32) (harg6 : arg6.IsWhole) (arg7 : Memref sig .tc .vmem S512x1024 .fp8e4m3) (harg7 : arg7.IsWhole) (arg8 : Memref sig .tc .vmem S1x4x1024 .f32) (harg8 : arg8.IsWhole) (arg9 : Memref sig .tc .vmem S512x4096 .bf16) (harg9 : arg9.IsWhole) (arg10 : Memref sig .tc .vmem S512x1024 .bf16) (harg10 : arg10.IsWhole) (hc0 : cond0_0 i)
    (x0 : Vec F S512x4096 .fp8e4m3) (x1 : Vec F S512x32 .f32) (x2 : Vec F S512x1024 .bf16)

/-- At the first point the stores of the forward operand's codes are its tiles' codes. -/
theorem first_4 : (kernelRun0_A c i arg1 harg1 arg2 harg2 arg3 harg3 arg4 harg4 arg5 harg5 arg6 harg6 arg7 harg7 arg8 harg8 arg9 harg9 arg10 harg10 hc0 x0 x1 x2).2.1
    = tilePieces (nb := 32) rfl codeOf (xT arg1 harg1 arg2 harg2 x0 x1) 128 (Nat.le_refl 128) := by sl_kernel_rfl

/-- At the first point the stores of the forward operand's scales are its tiles' scales. -/
theorem first_5 : (kernelRun0_A c i arg1 harg1 arg2 harg2 arg3 harg3 arg4 harg4 arg5 harg5 arg6 harg6 arg7 harg7 arg8 harg8 arg9 harg9 arg10 harg10 hc0 x0 x1 x2).2.2.1
    = rowPieces (nb := 32) rfl (xT arg1 harg1 arg2 harg2 x0 x1) 128 (Nat.le_refl 128) := by sl_kernel_rfl

/-- At the first point the stores of the gradient's codes are its tiles' codes. -/
theorem first_6 : (kernelRun0_A c i arg1 harg1 arg2 harg2 arg3 harg3 arg4 harg4 arg5 harg5 arg6 harg6 arg7 harg7 arg8 harg8 arg9 harg9 arg10 harg10 hc0 x0 x1 x2).2.2.2.1
    = tilePieces (nb := 8) rfl codeOf (gT arg3 harg3 x2) 32 (Nat.le_refl 32) := by sl_kernel_rfl

/-- At the first point the stores of the gradient's scales are its tiles' scales. -/
theorem first_7 : (kernelRun0_A c i arg1 harg1 arg2 harg2 arg3 harg3 arg4 harg4 arg5 harg5 arg6 harg6 arg7 harg7 arg8 harg8 arg9 harg9 arg10 harg10 hc0 x0 x1 x2).2.2.2.2.1
    = rowPieces (nb := 8) rfl (gT arg3 harg3 x2) 32 (Nat.le_refl 32) := by sl_kernel_rfl

/-- At the first point the stores of the weights' gradient are the accumulation over the two widened operands. -/
theorem first_3 : (kernelRun0_A c i arg1 harg1 arg2 harg2 arg3 harg3 arg4 harg4 arg5 harg5 arg6 harg6 arg7 harg7 arg8 harg8 arg9 harg9 arg10 harg10 hc0 x0 x1 x2).1
    = accFirst arg4 arg9 arg10 (tilePieces (nb := 32) rfl wideOf (xT arg1 harg1 arg2 harg2 x0 x1) 128 (Nat.le_refl 128))
        (tilePieces (nb := 8) rfl wideOf (gT arg3 harg3 x2) 32 (Nat.le_refl 32)) 8 (Nat.le_refl 8) := by sl_kernel_rfl

end Cert.Block
-- ==== Proof.Block.RunB.lean ====
module

public import proofs.«01_k».proof.Proof.Block.Pieces

@[expose] public section

noncomputable section

namespace Cert.Block

open Cert.KernelIdeal Cert.KernelIdeal.Gen Cert.Quant Idealize.ShloMosaic Idealize.SL.Sem

variable {F : FTy → Type} [FloatOps F]

variable (c : Dev nD) (i : grid0.Coords) (arg1 : Memref sig .tc .vmem S512x4096 .fp8e4m3) (harg1 : arg1.IsWhole) (arg2 : Memref sig .tc .vmem S512x32 .f32) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x4096 .fp8e4m3) (harg5 : arg5.IsWhole) (arg6 : Memref sig .tc .vmem S1x4x4096 .f32) (harg6 : arg6.IsWhole) (arg7 : Memref sig .tc .vmem S512x1024 .fp8e4m3) (harg7 : arg7.IsWhole) (arg8 : Memref sig .tc .vmem S1x4x1024 .f32) (harg8 : arg8.IsWhole) (arg9 : Memref sig .tc .vmem S512x4096 .bf16) (harg9 : arg9.IsWhole) (arg10 : Memref sig .tc .vmem S512x1024 .bf16) (harg10 : arg10.IsWhole) (hc0 : ¬cond0_0 i)
    (x0 : Vec F S512x4096 .fp8e4m3) (x1 : Vec F S512x32 .f32) (x2 : Vec F S512x1024 .bf16) (xo : Vec F S4096x1024 .f32)

/-- At a later point the stores of the forward operand's codes are its tiles' codes. -/
theorem next_4 : (kernelRun0_B c i arg1 harg1 arg2 harg2 arg3 harg3 arg4 harg4 arg5 harg5 arg6 harg6 arg7 harg7 arg8 harg8 arg9 harg9 arg10 harg10 hc0 x0 x1 x2 xo).2.1
    = tilePieces (nb := 32) rfl codeOf (xT arg1 harg1 arg2 harg2 x0 x1) 128 (Nat.le_refl 128) := by sl_kernel_rfl

/-- At a later point the stores of the forward operand's scales are its tiles' scales. -/
theorem next_5 : (kernelRun0_B c i arg1 harg1 arg2 harg2 arg3 harg3 arg4 harg4 arg5 harg5 arg6 harg6 arg7 harg7 arg8 harg8 arg9 harg9 arg10 harg10 hc0 x0 x1 x2 xo).2.2.1
    = rowPieces (nb := 32) rfl (xT arg1 harg1 arg2 harg2 x0 x1) 128 (Nat.le_refl 128) := by sl_kernel_rfl

/-- At a later point the stores of the gradient's codes are its tiles' codes. -/
theorem next_6 : (kernelRun0_B c i arg1 harg1 arg2 harg2 arg3 harg3 arg4 harg4 arg5 harg5 arg6 harg6 arg7 harg7 arg8 harg8 arg9 harg9 arg10 harg10 hc0 x0 x1 x2 xo).2.2.2.1
    = tilePieces (nb := 8) rfl codeOf (gT arg3 harg3 x2) 32 (Nat.le_refl 32) := by sl_kernel_rfl

/-- At a later point the stores of the gradient's scales are its tiles' scales. -/
theorem next_7 : (kernelRun0_B c i arg1 harg1 arg2 harg2 arg3 harg3 arg4 harg4 arg5 harg5 arg6 harg6 arg7 harg7 arg8 harg8 arg9 harg9 arg10 harg10 hc0 x0 x1 x2 xo).2.2.2.2.1
    = rowPieces (nb := 8) rfl (gT arg3 harg3 x2) 32 (Nat.le_refl 32) := by sl_kernel_rfl

/-- At a later point the stores of the weights' gradient are the accumulation over the two widened operands. -/
theorem next_3 : (kernelRun0_B c i arg1 harg1 arg2 harg2 arg3 harg3 arg4 harg4 arg5 harg5 arg6 harg6 arg7 harg7 arg8 harg8 arg9 harg9 arg10 harg10 hc0 x0 x1 x2 xo).1
    = accNext arg4 harg4 arg9 arg10 (tilePieces (nb := 32) rfl wideOf (xT arg1 harg1 arg2 harg2 x0 x1) 128 (Nat.le_refl 128))
        (tilePieces (nb := 8) rfl wideOf (gT arg3 harg3 x2) 32 (Nat.le_refl 32)) xo 8 (Nat.le_refl 8) := by sl_kernel_rfl

end Cert.Block
-- ==== Proof.Quant.Arrays.lean ====
module

public import proofs.«01_k».proof.Proof.Quant.Tile

@[expose] public section

noncomputable section

/-! The quantised layer as functions of natural row and column numbers: a matrix is `ℕ → ℕ → EReal`, its rows quantised in
groups of 128, each column of a group by its own power-of-two scale. -/

namespace Cert.Quant

open Idealize.ShloMosaic Idealize.SL.Sem

/-- A two-dimensional array at a row and a column, 0 outside. -/
def at2 {a b : ℕ} (v : (⟨2, ![a, b]⟩ : Shape).Idx → EReal) (r c : ℕ) : EReal :=
  if h : r < a ∧ c < b then v (ix2 ⟨r, h.1⟩ ⟨c, h.2⟩) else 0

/-- Inside its bounds the reading is the array's entry. -/
theorem at2_of {a b r c : ℕ} (v : (⟨2, ![a, b]⟩ : Shape).Idx → EReal) (hr : r < a) (hc : c < b) :
    at2 v r c = v (ix2 ⟨r, hr⟩ ⟨c, hc⟩) := dif_pos ⟨hr, hc⟩

/-- The forward operand widened: each stored code times the scale of its row's run of 128 columns. -/
def wideX {a b k : ℕ} (x : (⟨2, ![a, b]⟩ : Shape).Idx → EReal) (s : (⟨2, ![a, k]⟩ : Shape).Idx → EReal) (r c : ℕ) : EReal :=
  at2 x r c * at2 s r (c / 128)

/-- The scaled maximum of column `c` of row group `g`. -/
def grpT (V : ℕ → ℕ → EReal) (g c : ℕ) : EReal := colT fun i => V (128 * g + i.val) c

/-- The scale of column `c` of row group `g`. -/
def scl (V : ℕ → ℕ → EReal) (g c : ℕ) : EReal := rScale (grpT V g c)

/-- The code of row `r`, column `c`. -/
def code (V : ℕ → ℕ → EReal) (r c : ℕ) : EReal := qcode (grpT V (r / 128) c) (V r c)

/-- The code times its scale. -/
def deq (V : ℕ → ℕ → EReal) (r c : ℕ) : EReal := code V r c * scl V (r / 128) c

/-- The product of the two dequantised matrices over the first `n` rows. -/
def dotRows (V W : ℕ → ℕ → EReal) (n a b : ℕ) : EReal := ∑ r ∈ Finset.range n, deq V r a * deq W r b

/-- Row groups of a matrix that starts 512 rows further down are four groups further down. -/
theorem grpT_shift {V W : ℕ → ℕ → EReal} {t N : ℕ} (h : ∀ r c, r < 512 → c < N → V r c = W (512 * t + r) c) {g c : ℕ}
    (hg : g < 4) (hc : c < N) : grpT V g c = grpT W (4 * t + g) c := by
  unfold grpT
  congr 1
  funext i
  have hi := i.isLt
  rw [h _ _ (by omega) hc]
  congr 1
  omega

/-- So are its scales, -/
theorem scl_shift {V W : ℕ → ℕ → EReal} {t N : ℕ} (h : ∀ r c, r < 512 → c < N → V r c = W (512 * t + r) c) {g c : ℕ}
    (hg : g < 4) (hc : c < N) : scl V g c = scl W (4 * t + g) c := by
  unfold scl
  rw [grpT_shift h hg hc]

/-- its codes, -/
theorem code_shift {V W : ℕ → ℕ → EReal} {t N : ℕ} (h : ∀ r c, r < 512 → c < N → V r c = W (512 * t + r) c) {r c : ℕ}
    (hr : r < 512) (hc : c < N) : code V r c = code W (512 * t + r) c := by
  unfold code
  rw [grpT_shift h (by omega) hc, h r c hr hc, show (512 * t + r) / 128 = 4 * t + r / 128 by omega]

/-- and its dequantised values. -/
theorem deq_shift {V W : ℕ → ℕ → EReal} {t N : ℕ} (h : ∀ r c, r < 512 → c < N → V r c = W (512 * t + r) c) {r c : ℕ}
    (hr : r < 512) (hc : c < N) : deq V r c = deq W (512 * t + r) c := by
  unfold deq
  rw [code_shift h hr hc, scl_shift h (by omega) hc, show (512 * t + r) / 128 = 4 * t + r / 128 by omega]

/-- A matrix of 512 rows placed at row `512 t` adds its product to that of the rows above. -/
theorem dotRows_succ {V W V' W' : ℕ → ℕ → EReal} {t N M : ℕ} (hV : ∀ r c, r < 512 → c < N → V' r c = V (512 * t + r) c)
    (hW : ∀ r c, r < 512 → c < M → W' r c = W (512 * t + r) c) {a b : ℕ} (ha : a < N) (hb : b < M) :
    dotRows V W (512 * (t + 1)) a b = dotRows V W (512 * t) a b + dotRows V' W' 512 a b := by
  unfold dotRows
  rw [Nat.mul_add, Nat.mul_one, Finset.sum_range_add]
  congr 1
  refine Finset.sum_congr rfl fun r hr => ?_
  have hr := Finset.mem_range.1 hr
  rw [deq_shift hV hr ha, deq_shift hW hr hb]

end Cert.Quant
-- ==== Proof.Block.Tiles.lean ====
module

public import proofs.«01_k».proof.Proof.Block.Pieces
public import proofs.«01_k».proof.Proof.Quant.Arrays
public import Idealize.ShloMosaic.Lib.Pipeline.Value

@[expose] public section

noncomputable section

/-! What a grid point's tile stores leave in each block. -/

namespace Cert.Block

open Cert.KernelIdeal Cert.KernelIdeal.Gen Cert.Quant Idealize.ShloMosaic Idealize.SL.Sem

/-- The tile stores, one by one. -/
theorem mem_tilePieces {N nb : ℕ} {e : EltTy} (hN : 128 * nb = N) (f : FVec Ideal S128x128 .f32 → Vec Ideal S128x128 e)
    (T : (n : ℕ) → n < 4 * nb → FVec Ideal S128x128 .f32) (p : View.Piece (Elt Ideal) ⟨2, ![512, N]⟩ e) :
    ∀ (n : ℕ) (h : n ≤ 4 * nb), p ∈ tilePieces hN f T n h ↔ ∃ k, ∃ hk : k < 4 * nb, k < n ∧
      p = ⟨Rect.unit ![128 * (k / nb), 128 * (k % nb)] S128x128.size (inbTile (row_le hk) (col_le hN hk)), f (T k hk)⟩
  | 0, _ => Iff.intro (fun h => nomatch h) (fun ⟨_, _, h, _⟩ => absurd h (Nat.not_lt_zero _))
  | n + 1, h => by
    unfold tilePieces
    rw [List.mem_cons, mem_tilePieces hN f T p n (Nat.le_of_succ_le h)]
    constructor
    · rintro (rfl | ⟨k, hk, hn, rfl⟩)
      · exact ⟨n, h, Nat.lt_succ_self n, rfl⟩
      · exact ⟨k, hk, Nat.lt_succ_of_lt hn, rfl⟩
    · rintro ⟨k, hk, hn, rfl⟩
      rcases Nat.lt_succ_iff_lt_or_eq.1 hn with hn | rfl
      · exact .inr ⟨k, hk, hn, rfl⟩
      · exact .inl rfl

/-- The stores of scale rows, one by one. -/
theorem mem_rowPieces {N nb : ℕ} (hN : 128 * nb = N)
    (T : (n : ℕ) → n < 4 * nb → FVec Ideal S128x128 .f32) (p : View.Piece (Elt Ideal) ⟨3, ![1, 4, N]⟩ .f32) :
    ∀ (n : ℕ) (h : n ≤ 4 * nb), p ∈ rowPieces hN T n h ↔ ∃ k, ∃ hk : k < 4 * nb, k < n ∧
      p = ⟨Rect.unit ![0, k / nb, 128 * (k % nb)] S1x1x128.size
        (inbRow (Nat.div_lt_of_lt_mul (by rw [Nat.mul_comm]; exact hk)) (col_le hN hk)), scaleRow (T k hk)⟩
  | 0, _ => Iff.intro (fun h => nomatch h) (fun ⟨_, _, h, _⟩ => absurd h (Nat.not_lt_zero _))
  | n + 1, h => by
    unfold rowPieces
    rw [List.mem_cons, mem_rowPieces hN T p n (Nat.le_of_succ_le h)]
    constructor
    · rintro (rfl | ⟨k, hk, hn, rfl⟩)
      · exact ⟨n, h, Nat.lt_succ_self n, rfl⟩
      · exact ⟨k, hk, Nat.lt_succ_of_lt hn, rfl⟩
    · rintro ⟨k, hk, hn, rfl⟩
      rcases Nat.lt_succ_iff_lt_or_eq.1 hn with hn | rfl
      · exact .inr ⟨k, hk, hn, rfl⟩
      · exact .inl rfl

/-- The tile that holds row `r` and column `c`. -/
theorem tile_of {N nb r c : ℕ} (hN : 128 * nb = N) (hr : r < 512) (hc : c < N) :
    nb * (r / 128) + c / 128 < 4 * nb ∧ (nb * (r / 128) + c / 128) / nb = r / 128 ∧ (nb * (r / 128) + c / 128) % nb = c / 128 := by
  have h1 : c / 128 < nb := by omega
  have h2 : r / 128 < 4 := by omega
  have h3 : 0 < nb := by omega
  refine ⟨?_, ?_, ?_⟩
  · calc nb * (r / 128) + c / 128 < nb * (r / 128) + nb := by omega
      _ = nb * (r / 128 + 1) := by ring
      _ ≤ nb * 4 := Nat.mul_le_mul_left _ h2
      _ = 4 * nb := by ring
  · rw [Nat.mul_add_div h3, Nat.div_eq_of_lt h1, Nat.add_zero]
  · rw [Nat.mul_add_mod, Nat.mod_eq_of_lt h1]

/-- A block filled tile by tile holds at each place what the tile there says. -/
theorem tiles_canon {N nb : ℕ} {e : EltTy} (hN : 128 * nb = N) (f : FVec Ideal S128x128 .f32 → Vec Ideal S128x128 e)
    (T : (n : ℕ) → n < 4 * nb → FVec Ideal S128x128 .f32) (G : ℕ → ℕ → Elt Ideal e)
    (h : ∀ n hn (x : S128x128.Idx), f (T n hn) x = G (128 * (n / nb) + (x 0).val) (128 * (n % nb) + (x 1).val))
    (y : (⟨2, ![512, N]⟩ : Shape).Idx) :
    View.canon (tilePieces hN f T (4 * nb) (Nat.le_refl _)) y = G (y 0).val (y 1).val := by
  refine View.canon_apply_of_pieces (fun y => G (y 0).val (y 1).val) _ ?_ y ?_
  · intro p hp x
    obtain ⟨k, hk, _, rfl⟩ := (mem_tilePieces hN f T p _ _).1 hp
    refine (h k hk x).trans ?_
    show _ = G (128 * (k / nb) + 1 * (x 0).val) (128 * (k % nb) + 1 * (x 1).val)
    rw [Nat.one_mul, Nat.one_mul]
  · have h0 : (y 0).val < 512 := (y 0).isLt
    have h1 : (y 1).val < N := (y 1).isLt
    obtain ⟨hk, e1, e2⟩ := tile_of hN h0 h1
    refine ⟨_, (mem_tilePieces hN f T _ _ _).2 ⟨_, hk, hk, rfl⟩, ?_⟩
    refine (Rect.mem_set_unit (inb := inbTile (row_le hk) (col_le hN hk))).2 (Fin.forall_fin_two.2 ⟨?_, ?_⟩)
    · show 128 * (_ / nb) ≤ (y 0).val ∧ (y 0).val < 128 * (_ / nb) + 128
      rw [e1]; omega
    · show 128 * (_ % nb) ≤ (y 1).val ∧ (y 1).val < 128 * (_ % nb) + 128
      rw [e2]; omega

/-- A block of scales filled row by row holds at each place what the row there says. -/
theorem rows_canon {N nb : ℕ} (hN : 128 * nb = N)
    (T : (n : ℕ) → n < 4 * nb → FVec Ideal S128x128 .f32) (G : ℕ → ℕ → EReal)
    (h : ∀ n hn (x : S1x1x128.Idx), scaleRow (T n hn) x = G (n / nb) (128 * (n % nb) + (x 2).val))
    (y : (⟨3, ![1, 4, N]⟩ : Shape).Idx) :
    View.canon (Val := Elt Ideal) (rowPieces hN T (4 * nb) (Nat.le_refl _)) y = G (y 1).val (y 2).val := by
  refine View.canon_apply_of_pieces (Val := Elt Ideal) (e := .f32) (fun y => G (y 1).val (y 2).val) _ ?_ y ?_
  · intro p hp x
    obtain ⟨k, hk, _, rfl⟩ := (mem_rowPieces hN T p _ _).1 hp
    refine (h k hk x).trans ?_
    show _ = G (k / nb + 1 * (x 1).val) (128 * (k % nb) + 1 * (x 2).val)
    have h1 : (x 1).val < 1 := (x 1).isLt
    rw [Nat.one_mul, Nat.one_mul, show (x 1).val = 0 by omega, Nat.add_zero]
  · have h00 : (y 0).val < 1 := (y 0).isLt
    have h0 : (y 1).val < 4 := (y 1).isLt
    have h1 : (y 2).val < N := (y 2).isLt
    obtain ⟨hk, e1, e2⟩ := tile_of (r := 128 * (y 1).val) hN (by omega) h1
    refine ⟨_, (mem_rowPieces hN T _ _ _).2 ⟨_, hk, hk, rfl⟩, ?_⟩
    refine (Rect.mem_set_unit (inb := inbRow (by rw [e1]; omega) (col_le hN hk))).2 fun a => ?_
    match a with
    | ⟨0, _⟩ => show 0 ≤ (y 0).val ∧ (y 0).val < 0 + 1; omega
    | ⟨1, _⟩ => show _ / nb ≤ (y 1).val ∧ (y 1).val < _ / nb + 1; rw [e1]; omega
    | ⟨2, _⟩ => show 128 * (_ % nb) ≤ (y 2).val ∧ (y 2).val < 128 * (_ % nb) + 128; rw [e2]; omega

section Values

variable {N nb : ℕ} (hN : 128 * nb = N) (T : (n : ℕ) → n < 4 * nb → FVec Ideal S128x128 .f32) (V : ℕ → ℕ → EReal)
  (hT : ∀ n hn (x : S128x128.Idx), T n hn x = V (128 * (n / nb) + (x 0).val) (128 * (n % nb) + (x 1).val))

include hT

/-- The scaled maximum of a tile's column is that of the block's column in the row group. -/
theorem colT_tile (n : ℕ) (hn : n < 4 * nb) (c : Fin 128) :
    colT (fun r => T n hn (ix2 r c)) = grpT V (n / nb) (128 * (n % nb) + c.val) := by
  unfold grpT
  congr 1
  funext i
  exact hT n hn (ix2 i c)

/-- The codes a point leaves in a block. -/
theorem codes_canon (y : (⟨2, ![512, N]⟩ : Shape).Idx) :
    View.canon (Val := Elt Ideal) (e := .fp8e4m3) (tilePieces hN codeOf T (4 * nb) (Nat.le_refl _)) y = code V (y 0).val (y 1).val := by
  refine tiles_canon (e := .fp8e4m3) hN codeOf T (code V) (fun n hn x => ?_) y
  have h0 : (x 0).val < 128 := (x 0).isLt
  rw [codeOf_apply, hT]
  refine (congrArg (fun t => qcode t _) (colT_tile T V hT n hn (x 1))).trans ?_
  unfold code
  rw [show (128 * (n / nb) + (x 0).val) / 128 = n / nb by omega]

/-- The dequantised values a point leaves in a scratch buffer. -/
theorem deq_canon (y : (⟨2, ![512, N]⟩ : Shape).Idx) :
    View.canon (Val := Elt Ideal) (e := .bf16) (tilePieces hN wideOf T (4 * nb) (Nat.le_refl _)) y = deq V (y 0).val (y 1).val := by
  refine tiles_canon (e := .bf16) hN wideOf T (deq V) (fun n hn x => ?_) y
  have h0 : (x 0).val < 128 := (x 0).isLt
  rw [wideOf_apply, hT]
  refine (congrArg (fun t => qcode t _ * rScale t) (colT_tile T V hT n hn (x 1))).trans ?_
  unfold deq code scl
  rw [show (128 * (n / nb) + (x 0).val) / 128 = n / nb by omega]

/-- The scales a point leaves in a block. -/
theorem scales_canon (y : (⟨3, ![1, 4, N]⟩ : Shape).Idx) :
    View.canon (Val := Elt Ideal) (rowPieces hN T (4 * nb) (Nat.le_refl _)) y = scl V (y 1).val (y 2).val := by
  refine rows_canon hN T (scl V) (fun n hn x => ?_) y
  rw [scaleRow_apply]
  exact congrArg rScale (colT_tile T V hT n hn (x 2))

end Values

/-- Tile `n` of the forward operand, as the block's widened values. -/
theorem xT_apply (arg1 : Memref sig .tc .vmem S512x4096 .fp8e4m3) (harg1 : arg1.IsWhole) (arg2 : Memref sig .tc .vmem S512x32 .f32)
    (harg2 : arg2.IsWhole) (x0 : Vec Ideal S512x4096 .fp8e4m3) (x1 : Vec Ideal S512x32 .f32) (n : ℕ) (h : n < 4 * 32)
    (x : S128x128.Idx) : xT arg1 harg1 arg2 harg2 x0 x1 n h x
      = wideX x0 x1 (128 * (n / 32) + (x 0).val) (128 * (n % 32) + (x 1).val) := by
  have h0 : (x 0).val < 128 := (x 0).isLt
  have h1 : (x 1).val < 128 := (x 1).isLt
  rw [xT, xval_apply, View.readAt_eq_ld, View.readAt_eq_ld, harg1.read_unread, harg2.read_unread]
  unfold wideX
  rw [at2_of _ (by omega) (by omega), at2_of _ (by omega) (by omega)]
  refine congrArg₂ (· * ·) (congrArg x0 (funext fun a => Fin.ext ?_)) (congrArg x1 (funext fun a => Fin.ext ?_))
  · match a with
    | ⟨0, _⟩ => show 128 * (n / 32) + 1 * (x 0).val = 128 * (n / 32) + (x 0).val; omega
    | ⟨1, _⟩ => show 128 * (n % 32) + 1 * (x 1).val = 128 * (n % 32) + (x 1).val; omega
  · match a with
    | ⟨0, _⟩ => show 128 * (n / 32) + 1 * (x 0).val = 128 * (n / 32) + (x 0).val; omega
    | ⟨1, _⟩ => show n % 32 + 1 * 0 = (128 * (n % 32) + (x 1).val) / 128; omega

/-- Tile `n` of the gradient, as the block's values. -/
theorem gT_apply (arg3 : Memref sig .tc .vmem S512x1024 .bf16) (harg3 : arg3.IsWhole) (x2 : Vec Ideal S512x1024 .bf16)
    (n : ℕ) (h : n < 4 * 8) (x : S128x128.Idx) : gT arg3 harg3 x2 n h x
      = at2 x2 (128 * (n / 8) + (x 0).val) (128 * (n % 8) + (x 1).val) := by
  have h0 : (x 0).val < 128 := (x 0).isLt
  have h1 : (x 1).val < 128 := (x 1).isLt
  rw [gT, gval_apply, View.readAt_eq_ld, harg3.read_unread]
  rw [at2_of _ (by omega) (by omega)]
  refine congrArg x2 (funext fun a => Fin.ext ?_)
  match a with
  | ⟨0, _⟩ => show 128 * (n / 8) + 1 * (x 0).val = 128 * (n / 8) + (x 0).val; omega
  | ⟨1, _⟩ => show 128 * (n % 8) + 1 * (x 1).val = 128 * (n % 8) + (x 1).val; omega

end Cert.Block
-- ==== Proof.Block.Acc.lean ====
module

public import proofs.«01_k».proof.Proof.Block.Tiles

@[expose] public section

noncomputable section

/-! What a grid point's accumulation leaves in the weights' gradient. -/

namespace Cert.Block

open Cert.KernelIdeal Cert.KernelIdeal.Gen Cert.Quant Idealize.ShloMosaic Idealize.SL.Sem

/-- One step of the accumulation at a place: the block there plus the sum over the 512 tokens. -/
theorem macc_apply (a : Vec Ideal S512x1024 .f32) (l : Vec Ideal S512x512 .bf16) (r : Vec Ideal S512x1024 .bf16) (j : S512x1024.Idx) :
    macc a l r j = a j + ∑ k : Fin 512, l (ix2 k (j 0)) * r (ix2 k (j 1)) := by
  pointwise [macc]

variable (arg4 : Memref sig .tc .vmem S4096x1024 .f32) (harg4 : arg4.IsWhole)
  (arg9 : Memref sig .tc .vmem S512x4096 .bf16) (arg10 : Memref sig .tc .vmem S512x1024 .bf16)
  (W : List (View.Piece (Elt Ideal) S512x4096 .bf16)) (G : List (View.Piece (Elt Ideal) S512x1024 .bf16))
  (V U : ℕ → ℕ → EReal)
  (hW : ∀ y : S512x4096.Idx, View.canon (Val := Elt Ideal) (e := .bf16) W y = deq V (y 0).val (y 1).val)
  (hG : ∀ y : S512x1024.Idx, View.canon (Val := Elt Ideal) (e := .bf16) G y = deq U (y 0).val (y 1).val)

include hW hG

/-- A step over the two scratch buffers adds the product of the 512 rows. -/
theorem macc_scratch (a : Vec Ideal S512x1024 .f32) (n : ℕ) (h : n < 8) (j : S512x1024.Idx) :
    macc a (arg9.view.readCov W (Rect.unit (s := S512x4096) ![0, 512 * n] S512x512.size (inbBand h)).toLoadRect)
        (arg10.view.readCov G (Rect.unit (s := S512x1024) ![0, 0] S512x1024.size inbAll).toLoadRect) j
      = a j + dotRows V U 512 (512 * n + (j 0).val) (j 1).val := by
  rw [macc_apply, View.readCov_eq_canon', View.readCov_eq_canon']
  congr 1
  unfold dotRows
  rw [← Fin.sum_univ_eq_sum_range (fun r => deq V r (512 * n + (j 0).val) * deq U r (j 1).val) 512]
  refine Finset.sum_congr rfl fun k _ => ?_
  refine congrArg₂ (· * ·) ((hW _).trans ?_) ((hG _).trans ?_)
  · show deq V (0 + 1 * k.val) (512 * n + 1 * (j 0).val) = _
    rw [Nat.zero_add, Nat.one_mul, Nat.one_mul]
  · show deq U (0 + 1 * k.val) (0 + 1 * (j 1).val) = _
    rw [Nat.zero_add, Nat.one_mul, Nat.zero_add, Nat.one_mul]

/-- The first point, over the zero fill: after `n` blocks the rows of these hold the product, those below zero. -/
theorem accFirst_canon : ∀ (n : ℕ) (h : n ≤ 8) (y : S4096x1024.Idx),
    View.canon (Val := Elt Ideal) (e := .f32) (accFirst arg4 arg9 arg10 W G n h) y
      = if (y 0).val < 512 * n then dotRows V U 512 (y 0).val (y 1).val else 0
  | 0, _, y => by
    unfold accFirst
    have hm : ∃ x, (Rect.unit (s := S4096x1024) ![0, 0] S4096x1024.size inbZero).emb x = y := ⟨y, by
      refine funext fun a => Fin.ext ?_
      match a with
      | ⟨0, _⟩ => show 0 + 1 * (y 0).val = (y 0).val; omega
      | ⟨1, _⟩ => show 0 + 1 * (y 1).val = (y 1).val; omega⟩
    obtain ⟨x, hx⟩ := hm
    rw [← hx, View.canon_cons_emb, hx, if_neg (by omega)]
    exact Ideal.ofBits_zero_f32
  | n + 1, h, y => by
    unfold accFirst
    by_cases hy : 512 * n ≤ (y 0).val ∧ (y 0).val < 512 * n + 512
    · obtain ⟨x, hx⟩ : ∃ x, (Rect.unit (s := S4096x1024) ![512 * n, 0] S512x1024.size (inbAcc h)).emb x = y :=
        ⟨ix2 ⟨(y 0).val - 512 * n, by omega⟩ (y 1), by
          refine funext fun a => Fin.ext ?_
          match a with
          | ⟨0, _⟩ => show 512 * n + 1 * ((y 0).val - 512 * n) = (y 0).val; omega
          | ⟨1, _⟩ => show 0 + 1 * (y 1).val = (y 1).val; omega⟩
      have e0 : 512 * n + (x 0).val = (y 0).val := by
        rw [← hx]; show _ = 512 * n + 1 * (x 0).val; omega
      have e1 : (x 1).val = (y 1).val := by
        rw [← hx]; show _ = 0 + 1 * (x 1).val; omega
      rw [if_pos (by omega)]
      conv_lhs => rw [← hx]
      rw [View.canon_cons_emb, macc_scratch arg9 arg10 W G V U hW hG _ n h, e0, e1, View.readCov_eq_canon']
      refine (congrArg (· + _) ((accFirst_canon n _ _).trans (if_neg ?_))).trans (zero_add _)
      show ¬(512 * n + 1 * (x 0).val < 512 * n)
      omega
    · rw [View.canon_cons_of_not_mem, accFirst_canon n]
      · by_cases h' : (y 0).val < 512 * n
        · rw [if_pos h', if_pos (by omega)]
        · rw [if_neg h', if_neg (by omega)]
      · intro hm
        exact hy ((Rect.mem_set_unit (inb := inbAcc h)).1 hm 0)

/-- A later point, over what the point before left: the rows of the `n` blocks done hold the old value plus the product. -/
theorem accNext_canon (xo : Vec Ideal S4096x1024 .f32) : ∀ (n : ℕ) (h : n ≤ 8) (y : S4096x1024.Idx), (y 0).val < 512 * n →
    View.canon (Val := Elt Ideal) (e := .f32) (accNext arg4 harg4 arg9 arg10 W G xo n h) y
      = xo y + dotRows V U 512 (y 0).val (y 1).val
  | 0, _, y, hy => absurd hy (by omega)
  | n + 1, h, y, hy' => by
    unfold accNext
    by_cases hy : 512 * n ≤ (y 0).val
    · obtain ⟨x, hx⟩ : ∃ x, (Rect.unit (s := S4096x1024) ![512 * n, 0] S512x1024.size (inbAcc h)).emb x = y :=
        ⟨ix2 ⟨(y 0).val - 512 * n, by omega⟩ (y 1), by
          refine funext fun a => Fin.ext ?_
          match a with
          | ⟨0, _⟩ => show 512 * n + 1 * ((y 0).val - 512 * n) = (y 0).val; omega
          | ⟨1, _⟩ => show 0 + 1 * (y 1).val = (y 1).val; omega⟩
      have e0 : 512 * n + (x 0).val = (y 0).val := by
        rw [← hx]; show _ = 512 * n + 1 * (x 0).val; omega
      have e1 : (x 1).val = (y 1).val := by
        rw [← hx]; show _ = 0 + 1 * (x 1).val; omega
      conv_lhs => rw [← hx]
      rw [View.canon_cons_emb, macc_scratch arg9 arg10 W G V U hW hG _ n h, e0, e1, View.readAt_eq_ld, harg4.read_unread, ← hx]
      rfl
    · rw [View.canon_cons_of_not_mem, accNext_canon xo n _ y (by omega)]
      intro hm
      exact hy ((Rect.mem_set_unit (inb := inbAcc h)).1 hm 0).1

end Cert.Block
-- ==== Proof.Block.Outs.lean ====
module

public import proofs.«01_k».proof.Proof.Block.RunA
public import proofs.«01_k».proof.Proof.Block.RunB
public import proofs.«01_k».proof.Proof.Block.Acc

@[expose] public section

noncomputable section

/-! What a grid point leaves in each output block, at a place of the block. -/

namespace Cert.Block

open Cert.KernelIdeal Cert.KernelIdeal.Gen Cert.Quant Idealize.ShloMosaic Idealize.SL.Sem

variable (c : Dev nD) (i : grid0.Coords) (arg1 : Memref sig .tc .vmem S512x4096 .fp8e4m3) (harg1 : arg1.IsWhole) (arg2 : Memref sig .tc .vmem S512x32 .f32) (harg2 : arg2.IsWhole) (arg3 : Memref sig .tc .vmem S512x1024 .bf16) (harg3 : arg3.IsWhole) (arg4 : Memref sig .tc .vmem S4096x1024 .f32) (harg4 : arg4.IsWhole) (arg5 : Memref sig .tc .vmem S512x4096 .fp8e4m3) (harg5 : arg5.IsWhole) (arg6 : Memref sig .tc .vmem S1x4x4096 .f32) (harg6 : arg6.IsWhole) (arg7 : Memref sig .tc .vmem S512x1024 .fp8e4m3) (harg7 : arg7.IsWhole) (arg8 : Memref sig .tc .vmem S1x4x1024 .f32) (harg8 : arg8.IsWhole) (arg9 : Memref sig .tc .vmem S512x4096 .bf16) (harg9 : arg9.IsWhole) (arg10 : Memref sig .tc .vmem S512x1024 .bf16) (harg10 : arg10.IsWhole)
  (x0 : Vec Ideal S512x4096 .fp8e4m3) (x1 : Vec Ideal S512x32 .f32) (x2 : Vec Ideal S512x1024 .bf16)

/-- The first point leaves the codes of the widened forward block. -/
theorem out_A_4 (hc0 : cond0_0 i) (y : S512x4096.Idx) :
    out0_A_4 c i arg1 harg1 arg2 harg2 arg3 harg3 arg4 harg4 arg5 harg5 arg6 harg6 arg7 harg7 arg8 harg8 arg9 harg9 arg10 harg10 hc0 x0 x1 x2 y = code (wideX x0 x1) (y 0).val (y 1).val := by
  unfold out0_A_4
  rw [View.read_writes_junk_eq_canon, first_4]
  exact codes_canon (nb := 32) rfl _ _ (xT_apply arg1 harg1 arg2 harg2 x0 x1) y

/-- The first point leaves the scales of the widened forward block. -/
theorem out_A_5 (hc0 : cond0_0 i) (y : S1x4x4096.Idx) :
    out0_A_5 c i arg1 harg1 arg2 harg2 arg3 harg3 arg4 harg4 arg5 harg5 arg6 harg6 arg7 harg7 arg8 harg8 arg9 harg9 arg10 harg10 hc0 x0 x1 x2 y = scl (wideX x0 x1) (y 1).val (y 2).val := by
  unfold out0_A_5
  rw [View.read_writes_junk_eq_canon, first_5]
  exact scales_canon (nb := 32) rfl _ _ (xT_apply arg1 harg1 arg2 harg2 x0 x1) y

/-- The first point leaves the codes of the gradient's block. -/
theorem out_A_6 (hc0 : cond0_0 i) (y : S512x1024.Idx) :
    out0_A_6 c i arg1 harg1 arg2 harg2 arg3 harg3 arg4 harg4 arg5 harg5 arg6 harg6 arg7 harg7 arg8 harg8 arg9 harg9 arg10 harg10 hc0 x0 x1 x2 y = code (at2 x2) (y 0).val (y 1).val := by
  unfold out0_A_6
  rw [View.read_writes_junk_eq_canon, first_6]
  exact codes_canon (nb := 8) rfl _ _ (gT_apply arg3 harg3 x2) y

/-- The first point leaves the scales of the gradient's block. -/
theorem out_A_7 (hc0 : cond0_0 i) (y : S1x4x1024.Idx) :
    out0_A_7 c i arg1 harg1 arg2 harg2 arg3 harg3 arg4 harg4 arg5 harg5 arg6 harg6 arg7 harg7 arg8 harg8 arg9 harg9 arg10 harg10 hc0 x0 x1 x2 y = scl (at2 x2) (y 1).val (y 2).val := by
  unfold out0_A_7
  rw [View.read_writes_junk_eq_canon, first_7]
  exact scales_canon (nb := 8) rfl _ _ (gT_apply arg3 harg3 x2) y

/-- The first point leaves the product of its 512 rows. -/
theorem out_A_3 (hc0 : cond0_0 i) (y : S4096x1024.Idx) :
    out0_A_3 c i arg1 harg1 arg2 harg2 arg3 harg3 arg4 harg4 arg5 harg5 arg6 harg6 arg7 harg7 arg8 harg8 arg9 harg9 arg10 harg10 hc0 x0 x1 x2 y = dotRows (wideX x0 x1) (at2 x2) 512 (y 0).val (y 1).val := by
  have h0 : (y 0).val < 4096 := (y 0).isLt
  unfold out0_A_3
  rw [View.read_writes_junk_eq_canon, first_3]
  exact (accFirst_canon arg4 arg9 arg10 _ _ _ _ (deq_canon (nb := 32) rfl _ _ (xT_apply arg1 harg1 arg2 harg2 x0 x1))
    (deq_canon (nb := 8) rfl _ _ (gT_apply arg3 harg3 x2)) 8 (Nat.le_refl 8) y).trans (if_pos (by omega))

/-- A later point leaves the codes of the widened forward block. -/
theorem out_B_4 (hc0 : ¬cond0_0 i) (xo : Vec Ideal S4096x1024 .f32) (y : S512x4096.Idx) :
    out0_B_4 c i arg1 harg1 arg2 harg2 arg3 harg3 arg4 harg4 arg5 harg5 arg6 harg6 arg7 harg7 arg8 harg8 arg9 harg9 arg10 harg10 hc0 x0 x1 x2 xo y = code (wideX x0 x1) (y 0).val (y 1).val := by
  unfold out0_B_4
  rw [View.read_writes_junk_eq_canon, next_4]
  exact codes_canon (nb := 32) rfl _ _ (xT_apply arg1 harg1 arg2 harg2 x0 x1) y

/-- A later point leaves the scales of the widened forward block. -/
theorem out_B_5 (hc0 : ¬cond0_0 i) (xo : Vec Ideal S4096x1024 .f32) (y : S1x4x4096.Idx) :
    out0_B_5 c i arg1 harg1 arg2 harg2 arg3 harg3 arg4 harg4 arg5 harg5 arg6 harg6 arg7 harg7 arg8 harg8 arg9 harg9 arg10 harg10 hc0 x0 x1 x2 xo y = scl (wideX x0 x1) (y 1).val (y 2).val := by
  unfold out0_B_5
  rw [View.read_writes_junk_eq_canon, next_5]
  exact scales_canon (nb := 32) rfl _ _ (xT_apply arg1 harg1 arg2 harg2 x0 x1) y

/-- A later point leaves the codes of the gradient's block. -/
theorem out_B_6 (hc0 : ¬cond0_0 i) (xo : Vec Ideal S4096x1024 .f32) (y : S512x1024.Idx) :
    out0_B_6 c i arg1 harg1 arg2 harg2 arg3 harg3 arg4 harg4 arg5 harg5 arg6 harg6 arg7 harg7 arg8 harg8 arg9 harg9 arg10 harg10 hc0 x0 x1 x2 xo y = code (at2 x2) (y 0).val (y 1).val := by
  unfold out0_B_6
  rw [View.read_writes_junk_eq_canon, next_6]
  exact codes_canon (nb := 8) rfl _ _ (gT_apply arg3 harg3 x2) y

/-- A later point leaves the scales of the gradient's block. -/
theorem out_B_7 (hc0 : ¬cond0_0 i) (xo : Vec Ideal S4096x1024 .f32) (y : S1x4x1024.Idx) :
    out0_B_7 c i arg1 harg1 arg2 harg2 arg3 harg3 arg4 harg4 arg5 harg5 arg6 harg6 arg7 harg7 arg8 harg8 arg9 harg9 arg10 harg10 hc0 x0 x1 x2 xo y = scl (at2 x2) (y 1).val (y 2).val := by
  unfold out0_B_7
  rw [View.read_writes_junk_eq_canon, next_7]
  exact scales_canon (nb := 8) rfl _ _ (gT_apply arg3 harg3 x2) y

/-- A later point leaves what it found plus the product of its 512 rows. -/
theorem out_B_3 (hc0 : ¬cond0_0 i) (xo : Vec Ideal S4096x1024 .f32) (y : S4096x1024.Idx) :
    out0_B_3 c i arg1 harg1 arg2 harg2 arg3 harg3 arg4 harg4 arg5 harg5 arg6 harg6 arg7 harg7 arg8 harg8 arg9 harg9 arg10 harg10 hc0 x0 x1 x2 xo y = xo y + dotRows (wideX x0 x1) (at2 x2) 512 (y 0).val (y 1).val := by
  have h0 : (y 0).val < 4096 := (y 0).isLt
  unfold out0_B_3
  rw [View.read_writes_junk_eq_canon, next_3]
  exact accNext_canon arg4 harg4 arg9 arg10 _ _ _ _ (deq_canon (nb := 32) rfl _ _ (xT_apply arg1 harg1 arg2 harg2 x0 x1))
    (deq_canon (nb := 8) rfl _ _ (gT_apply arg3 harg3 x2)) xo 8 (Nat.le_refl 8) y (by omega)

end Cert.Block
-- ==== Proof.Kernel.Points.lean ====
module

public import proofs.«01_k».proof.Proof.Block.Outs
public import proofs.«01_k».proof.Proof.Gen.KernelIdeal.Value
public import Idealize.ShloMosaic.Lib.Pipeline.ValueKit

@[expose] public section

noncomputable section

/-! What each grid point leaves in each output block, over the whole input arrays. -/

namespace Cert.KernelSide

open Cert.KernelIdeal Cert.KernelIdeal.Gen Cert.Quant Cert.Block Idealize.ShloMosaic Idealize.ShloMosaic.TcCoe Idealize.SL.Sem

variable (m : (ℓ : Loc nD τ sig) → Buf (Elt Ideal) ℓ) (c : Dev nD)

/-- The forward operand widened, over the whole arrays the region finds. -/
def X : ℕ → ℕ → EReal :=
  wideX (a := 16384) (b := 4096) (k := 32) (V m c main_v0 : S16384x4096.Idx → EReal) (V m c main_v1 : S16384x32.Idx → EReal)

/-- The gradient, over the whole array the region finds. -/
def G : ℕ → ℕ → EReal := at2 (a := 16384) (b := 1024) (V m c main_v2 : S16384x1024.Idx → EReal)

/-- Where each window's block sits at each point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0, 0]
    ∧ win0_6.index t = ![t.val, 0] ∧ win0_7.index t = ![t.val, 0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0, 0]
    ∧ win0_6.index t = ![t.val, 0] ∧ win0_7.index t = ![t.val, 0, 0])

/-- There are 32 grid points. -/
theorem t_lt (t : Fin cfg0.N) : t.val < 32 := lt_of_lt_of_eq t.isLt (show cfg0.N = 32 from N_0)

/-- The codes' block at point `t` is rows `512 t` on of the array. -/
theorem blk0 (t : Fin cfg0.N) (y : S512x4096.Idx) (h : 512 * t.val + (y 0).val < 16384) :
    iblk m c 0 t y = (V m c main_v0 : S16384x4096.Idx → EReal) (ix2 ⟨512 * t.val + (y 0).val, h⟩ (y 1)) := by
  blk_ext [iblk, idx t]

/-- The scales' block at point `t`. -/
theorem blk1 (t : Fin cfg0.N) (y : S512x32.Idx) (h : 512 * t.val + (y 0).val < 16384) :
    iblk m c 1 t y = (V m c main_v1 : S16384x32.Idx → EReal) (ix2 ⟨512 * t.val + (y 0).val, h⟩ (y 1)) := by
  blk_ext [iblk, idx t]

/-- The gradient's block at point `t`. -/
theorem blk2 (t : Fin cfg0.N) (y : S512x1024.Idx) (h : 512 * t.val + (y 0).val < 16384) :
    iblk m c 2 t y = (V m c main_v2 : S16384x1024.Idx → EReal) (ix2 ⟨512 * t.val + (y 0).val, h⟩ (y 1)) := by
  blk_ext [iblk, idx t]

/-- The widened forward block at point `t` is rows `512 t` on of the widened operand. -/
theorem shiftX (t : Fin cfg0.N) (r k : ℕ) (hr : r < 512) (hk : k < 4096) :
    wideX (a := 512) (b := 4096) (k := 32) (iblk m c 0 t) (iblk m c 1 t) r k = X m c (512 * t.val + r) k := by
  have ht := t_lt t
  unfold X wideX
  rw [at2_of _ hr hk, at2_of _ hr (by omega), at2_of _ (by omega) hk, at2_of _ (by omega) (by omega)]
  exact congrArg₂ (· * ·) (blk0 m c t _ (by show 512 * t.val + r < 16384; omega)) (blk1 m c t _ (by show 512 * t.val + r < 16384; omega))

/-- The gradient's block at point `t` is rows `512 t` on of the gradient. -/
theorem shiftG (t : Fin cfg0.N) (r k : ℕ) (hr : r < 512) (hk : k < 1024) :
    at2 (a := 512) (b := 1024) (iblk m c 2 t) r k = G m c (512 * t.val + r) k := by
  have ht := t_lt t
  unfold G
  rw [at2_of _ hr hk, at2_of _ (by omega) hk]
  exact blk2 m c t _ (by show 512 * t.val + r < 16384; omega)

/-- Point `t` leaves the forward operand's codes of its rows, -/
theorem after4 (t : Fin cfg0.N) (y : S512x4096.Idx) :
    (outsAt0 m c t.val t.isLt).2.1 y = code (X m c) (512 * t.val + (y 0).val) (y 1).val := by
  refine Eq.trans ?_ (code_shift (shiftX m c t) (y 0).isLt (y 1).isLt)
  by_cases h : t.val % 32 = 0
  · rw [outsAt0_A m c t h]; dsimp only; rw [out_A_4]
  · rw [outsAt0_B m c t h]; dsimp only; rw [out_B_4]

/-- its scales, -/
theorem after5 (t : Fin cfg0.N) (y : S1x4x4096.Idx) :
    (outsAt0 m c t.val t.isLt).2.2.1 y = scl (X m c) (4 * t.val + (y 1).val) (y 2).val := by
  refine Eq.trans ?_ (scl_shift (shiftX m c t) (y 1).isLt (y 2).isLt)
  by_cases h : t.val % 32 = 0
  · rw [outsAt0_A m c t h]; dsimp only; rw [out_A_5]
  · rw [outsAt0_B m c t h]; dsimp only; rw [out_B_5]

/-- the gradient's codes of its rows, -/
theorem after6 (t : Fin cfg0.N) (y : S512x1024.Idx) :
    (outsAt0 m c t.val t.isLt).2.2.2.1 y = code (G m c) (512 * t.val + (y 0).val) (y 1).val := by
  refine Eq.trans ?_ (code_shift (shiftG m c t) (y 0).isLt (y 1).isLt)
  by_cases h : t.val % 32 = 0
  · rw [outsAt0_A m c t h]; dsimp only; rw [out_A_6]
  · rw [outsAt0_B m c t h]; dsimp only; rw [out_B_6]

/-- its scales, -/
theorem after7 (t : Fin cfg0.N) (y : S1x4x1024.Idx) :
    (outsAt0 m c t.val t.isLt).2.2.2.2 y = scl (G m c) (4 * t.val + (y 1).val) (y 2).val := by
  refine Eq.trans ?_ (scl_shift (shiftG m c t) (y 1).isLt (y 2).isLt)
  by_cases h : t.val % 32 = 0
  · rw [outsAt0_A m c t h]; dsimp only; rw [out_A_7]
  · rw [outsAt0_B m c t h]; dsimp only; rw [out_B_7]

/-- and the product of all rows up to its last. -/
theorem after3 : ∀ (n : ℕ) (hn : n < cfg0.N) (y : S4096x1024.Idx),
    (outsAt0 m c n hn).1 y = dotRows (X m c) (G m c) (512 * (n + 1)) (y 0).val (y 1).val
  | 0, hn, y => by
    rw [dotRows_succ (shiftX m c ⟨0, hn⟩) (shiftG m c ⟨0, hn⟩) (y 0).isLt (y 1).isLt]
    have e : dotRows (X m c) (G m c) (512 * (⟨0, hn⟩ : Fin cfg0.N).val) (y 0).val (y 1).val = 0 := by
      unfold dotRows; exact Finset.sum_range_zero _
    rw [e, zero_add]
    rw [show outsAt0 m c 0 hn = outsAt0 m c (⟨0, hn⟩ : Fin cfg0.N).val hn from rfl, outsAt0_A m c ⟨0, hn⟩ rfl]
    dsimp only
    rw [out_A_3]
  | n + 1, hn, y => by
    have ht : n + 1 < 32 := t_lt ⟨n + 1, hn⟩
    rw [dotRows_succ (shiftX m c ⟨n + 1, hn⟩) (shiftG m c ⟨n + 1, hn⟩) (y 0).isLt (y 1).isLt]
    rw [show outsAt0 m c (n + 1) hn = outsAt0 m c (⟨n + 1, hn⟩ : Fin cfg0.N).val hn from rfl,
      outsAt0_B m c ⟨n + 1, hn⟩ (by show ¬(n + 1) % 32 = 0; omega)]
    dsimp only
    rw [out_B_3]
    exact congrArg (· + _) (after3 n (Nat.lt_of_succ_lt hn) y)

end Cert.KernelSide
-- ==== Proof.Kernel.Arrays.lean ====
module

public import proofs.«01_k».proof.Proof.Kernel.Points

@[expose] public section

noncomputable section

/-! The kernel's five result arrays. -/

namespace Cert.KernelSide

open Cert.KernelIdeal Cert.KernelIdeal.Gen Cert.Quant Cert.Block Idealize.ShloMosaic Idealize.ShloMosaic.TcCoe Idealize.SL.Sem

variable (m : (ℓ : Loc nD τ sig) → Buf (Elt Ideal) ℓ) (c : Dev nD)

/-- The weights' gradient: the product over all 16384 rows. -/
theorem final3 : ((dats m 0 c).arrAt 3 cfg0.N : S4096x1024.Idx → EReal)
    = fun y => dotRows (X m c) (G m c) 16384 (y 0).val (y 1).val := by
  refine (dats m 0 c).arrAt_eq_of_covers 3 _ (by decide +kernel) fun t hf y => ?_
  have ht := t_lt t
  have h31 : t.val % 32 = 31 := (flush0_3 t).1 hf
  have h : t.val = 31 := by omega
  blk_simp [idx t]
  rw [after0_3, after3 m c, h]

/-- The forward operand's codes. -/
theorem final4 : ((dats m 0 c).arrAt 4 cfg0.N : S16384x4096.Idx → EReal) = fun y => code (X m c) (y 0).val (y 1).val := by
  refine (dats m 0 c).arrAt_eq_of_covers 4 _ (by decide +kernel) fun t hf y => ?_
  blk_simp [idx t]
  rw [after0_4, after4 m c t, Nat.mul_comm]

/-- The forward operand's scales. -/
theorem final5 : ((dats m 0 c).arrAt 5 cfg0.N : S32x4x4096.Idx → EReal)
    = fun y => scl (X m c) (4 * (y 0).val + (y 1).val) (y 2).val := by
  refine (dats m 0 c).arrAt_eq_of_covers 5 _ (by decide +kernel) fun t hf y => ?_
  blk_simp [idx t]
  rw [after0_5, after5 m c t]

/-- The gradient's codes. -/
theorem final6 : ((dats m 0 c).arrAt 6 cfg0.N : S16384x1024.Idx → EReal) = fun y => code (G m c) (y 0).val (y 1).val := by
  refine (dats m 0 c).arrAt_eq_of_covers 6 _ (by decide +kernel) fun t hf y => ?_
  blk_simp [idx t]
  rw [after0_6, after6 m c t, Nat.mul_comm]

/-- The gradient's scales. -/
theorem final7 : ((dats m 0 c).arrAt 7 cfg0.N : S32x4x1024.Idx → EReal)
    = fun y => scl (G m c) (4 * (y 0).val + (y 1).val) (y 2).val := by
  refine (dats m 0 c).arrAt_eq_of_covers 7 _ (by decide +kernel) fun t hf y => ?_
  blk_simp [idx t]
  rw [after0_7, after7 m c t]

end Cert.KernelSide
-- ==== Proof.Ref.Stage.lean ====
module

public import Idealize.ShloMosaic.Lib.Pointwise
public import Idealize.ShloMosaic.Lib.ValueIdx
public import proofs.«01_k».proof.Proof.Quant.Arrays

@[expose] public section

noncomputable section

/-! The reference's quantiser at a place, for any number of columns. -/

namespace Cert.Ref

open Cert.Quant Idealize.ShloMosaic Idealize.SL.Sem

/-- The shape of a matrix cut into 128 groups of 128 rows. -/
abbrev S3 (N : ℕ) : Shape := ⟨3, ![128, 128, N]⟩

/-- The shape of one value per group and column. -/
abbrev S2 (N : ℕ) : Shape := ⟨2, ![128, N]⟩

/-- The shape of the table of powers against every group and column. -/
abbrev S246 (N : ℕ) : Shape := ⟨3, ![246, 128, N]⟩

/-- The table of powers. -/
abbrev STab : Shape := ⟨3, ![246, 1, 1]⟩

/-- A maximum over the rows of a group is a fold over its 128 rows. -/
theorem max_rows {N : ℕ} (w : FVec Ideal (S3 N) .f32) (h : (S3 N).Reduces [1] (S2 N)) (hφ hacc) (j : (S2 N).Idx) :
    multiReduction .maximumf [1] (S2 N) w 0xFF800000#32 h hφ hacc j
      = Finset.fold max (Ideal.ofBits .f32 0xFF800000#32) (fun x : Fin 128 => w (ix3 (j 0) x (j 1))) Finset.univ := by
  classical
  rw [multiReduction_maximumf_eq_fold, Shape.Reduces.fold_filter_drop_single]
  refine congrArg (fun f => Finset.fold max (Ideal.ofBits .f32 0xFF800000#32) f (Finset.univ : Finset (Fin 128))) (funext fun x => ?_)
  refine congrArg w (funext fun a => Fin.ext ?_)
  match a with
  | ⟨0, _⟩ => rfl
  | ⟨1, _⟩ => rfl
  | ⟨2, _⟩ => rfl

/-- A minimum over the table is a fold over its 246 powers. -/
theorem min_tab {N : ℕ} (w : FVec Ideal (S246 N) .f32) (h : (S246 N).Reduces [0] (S2 N)) (hφ hacc) (j : (S2 N).Idx) :
    multiReduction .minimumf [0] (S2 N) w 0x7F800000#32 h hφ hacc j
      = Finset.fold min (Ideal.ofBits .f32 0x7F800000#32) (fun x : Fin 246 => w (ix3 x (j 0) (j 1))) Finset.univ := by
  classical
  rw [multiReduction_minimumf_eq_fold, Shape.Reduces.fold_filter_drop_single]
  refine congrArg (fun f => Finset.fold min (Ideal.ofBits .f32 0x7F800000#32) f (Finset.univ : Finset (Fin 246))) (funext fun x => ?_)
  refine congrArg w (funext fun a => Fin.ext ?_)
  match a with
  | ⟨0, _⟩ => rfl
  | ⟨1, _⟩ => rfl
  | ⟨2, _⟩ => rfl

variable {F : FTy → Type} [FloatOps F]

/-- The greatest magnitude of each group's column, over 448. -/
def tStage {N : ℕ} (h : (S3 N).Reduces [1] (S2 N)) (w : FVec F (S3 N) .f32) : FVec F (S2 N) .f32 :=
  mulf (multiReduction .maximumf [1] (S2 N) (absf w) 0xFF800000#32 h (.inl rfl) rfl) (broadcast (S2 N) (Scalar.ofBits .f32 0x3B124925#32))

/-- It is the scaled maximum of the group's column. -/
theorem tStage_apply {N : ℕ} (h : (S3 N).Reduces [1] (S2 N)) (w : FVec Ideal (S3 N) .f32) (j : (S2 N).Idx) :
    tStage h w j = colT fun i => w (ix3 (j 0) i (j 1)) := by
  refine (congrArg (· * Ideal.ofBits .f32 0x3B124925#32) (max_rows (absf w) h (.inl rfl) rfl j)).trans ?_
  rfl

/-- The powers of two, 2^-125 to 2^120. -/
def powers (hi : STab.Iotas .tc 32 [0]) : FVec F STab .f32 :=
  exp2 (sitofp .f32 (subi (iota .tc STab 32 [0] hi) (broadcast STab 125#32)))

/-- The powers above `T`, and infinity at the rest. -/
def above {N : ℕ} (hi : STab.Iotas .tc 32 [0]) (hc : (S2 N).ShapeCasts ⟨3, ![1, 128, N]⟩) (hb : STab.Broadcasts (S246 N))
    (hb' : Shape.Broadcasts ⟨3, ![1, 128, N]⟩ (S246 N)) (hr : STab.ShapeCasts STab) (T : FVec F (S2 N) .f32) : FVec F (S246 N) .f32 :=
  select (cmpf .ogt (broadcastTo (S246 N) (powers hi) hb) (broadcastTo (S246 N) (shapeCast ⟨3, ![1, 128, N]⟩ T hc) hb'))
    (broadcastTo (S246 N) (shapeCast STab (powers hi) hr) hb) (broadcast (S246 N) (Scalar.ofBits .f32 0x7F800000#32))

/-- The least power above `T` inside the range of powers, and one outside it. -/
def sStage {N : ℕ} (hi : STab.Iotas .tc 32 [0]) (hc : (S2 N).ShapeCasts ⟨3, ![1, 128, N]⟩) (hb : STab.Broadcasts (S246 N))
    (hb' : Shape.Broadcasts ⟨3, ![1, 128, N]⟩ (S246 N)) (hr : STab.ShapeCasts STab) (h : (S246 N).Reduces [0] (S2 N))
    (T : FVec F (S2 N) .f32) : FVec F (S2 N) .f32 :=
  select (andi (cmpf .oge T (broadcast (S2 N) (Scalar.ofBits .f32 0x00800000#32))) (cmpf .olt T (broadcast (S2 N) (Scalar.ofBits .f32 0x7B800000#32))))
    (multiReduction .minimumf [0] (S2 N) (above hi hc hb hb' hr T) 0x7F800000#32 h (.inl rfl) rfl)
    (broadcast (S2 N) (Scalar.ofBits .f32 0x3F800000#32))

/-- An entry of the table against `t`. -/
def tabAt (t : EReal) (x : Fin 246) : EReal :=
  if t < Ideal.exp2 (((IntOp.subi (BitVec.ofNat 32 x.val) 125#32).toInt : ℝ) : EReal)
    then Ideal.exp2 (((IntOp.subi (BitVec.ofNat 32 x.val) 125#32).toInt : ℝ) : EReal) else Ideal.ofBits .f32 0x7F800000#32

/-- The table against `T` at a place, 4096 columns. -/
theorem above_4096 (hi : STab.Iotas .tc 32 [0]) (hc : (S2 4096).ShapeCasts ⟨3, ![1, 128, 4096]⟩) (hb : STab.Broadcasts (S246 4096))
    (hb' : Shape.Broadcasts ⟨3, ![1, 128, 4096]⟩ (S246 4096)) (hr : STab.ShapeCasts STab) (T : FVec Ideal (S2 4096) .f32) (x : Fin 246) (j : (S2 4096).Idx) :
    above hi hc hb hb' hr T (ix3 x (j 0) (j 1)) = tabAt (T j) x := by
  pointwise [above, powers, tabAt]
  rfl

/-- The table against `T` at a place, 1024 columns. -/
theorem above_1024 (hi : STab.Iotas .tc 32 [0]) (hc : (S2 1024).ShapeCasts ⟨3, ![1, 128, 1024]⟩) (hb : STab.Broadcasts (S246 1024))
    (hb' : Shape.Broadcasts ⟨3, ![1, 128, 1024]⟩ (S246 1024)) (hr : STab.ShapeCasts STab) (T : FVec Ideal (S2 1024) .f32) (x : Fin 246) (j : (S2 1024).Idx) :
    above hi hc hb hb' hr T (ix3 x (j 0) (j 1)) = tabAt (T j) x := by
  pointwise [above, powers, tabAt]
  rfl

/-- The reference's scale at a place. -/
theorem sStage_apply {N : ℕ} (hi : STab.Iotas .tc 32 [0]) (hc : (S2 N).ShapeCasts ⟨3, ![1, 128, N]⟩) (hb : STab.Broadcasts (S246 N))
    (hb' : Shape.Broadcasts ⟨3, ![1, 128, N]⟩ (S246 N)) (hr : STab.ShapeCasts STab) (h : (S246 N).Reduces [0] (S2 N))
    (T : FVec Ideal (S2 N) .f32) (j : (S2 N).Idx) (ha : ∀ x : Fin 246, above hi hc hb hb' hr T (ix3 x (j 0) (j 1)) = tabAt (T j) x) :
    sStage hi hc hb hb' hr h T j = rScale (T j) := by
  have e : multiReduction .minimumf [0] (S2 N) (above hi hc hb hb' hr T) 0x7F800000#32 h (.inl rfl) rfl j = rLeast (T j) := by
    refine (min_tab _ h _ _ j).trans ?_
    refine congrArg (fun f => Finset.fold min (Ideal.ofBits .f32 0x7F800000#32) f (Finset.univ : Finset (Fin 246))) (funext fun x => ?_)
    exact ha x
  have e1 : Ideal.ofBits .f32 0x3F800000#32 = 1 := by simp
  unfold rScale
  rw [← e, ← e1]
  rfl

end Cert.Ref
-- ==== Proof.Ref.Read.lean ====
module

public import proofs.«01_k».proof.Proof.Gen.ReferenceIdeal.Skeleton
public import proofs.«01_k».proof.Proof.Ref.Stage

@[expose] public section

noncomputable section

/-! The reference's values at a place, as functions of natural row and column numbers. -/

namespace Cert.Ref

open Cert.ReferenceIdeal Cert.ReferenceIdeal.Gen Cert.Quant Idealize.ShloMosaic Idealize.SL.Sem

section
variable {F : FTy → Type} [FloatOps F]

/-- The forward operand's scales are the two stages on the widened operand. -/
theorem pay5_eq (v0 : Vec F S16384x4096 .fp8e4m3) (v4 : Vec F S16384x32 .f32) :
    k0_pay5 v0 v4 = sStage (N := 4096) iota_S246x1x1_d0_w32 shapeCasts_S128x4096_S1x128x4096 broadcasts_S246x1x1_S246x128x4096
      broadcasts_S1x128x4096_S246x128x4096 shapeCasts_S246x1x1_S246x1x1 reduces_S246x128x4096_S128x4096
      (tStage (N := 4096) reduces_S128x128x4096_S128x4096 (k0_pay4 v0 v4)) := rfl

/-- The gradient's scales are the same stages on the gradient. -/
theorem pay9_eq (v12 : FVec F S16384x1024 .f32) :
    k0_pay9 v12 = sStage (N := 1024) iota_S246x1x1_d0_w32 shapeCasts_S128x1024_S1x128x1024 broadcasts_S246x1x1_S246x128x1024
      broadcasts_S1x128x1024_S246x128x1024 shapeCasts_S246x1x1_S246x1x1 reduces_S246x128x1024_S128x1024
      (tStage (N := 1024) reduces_S128x128x1024_S128x1024 (k0_pay8 v12)) := rfl

/-- A group's values divided by its scales, the forward operand. -/
def divX (w : FVec F S128x128x4096 .f32) (s : FVec F S128x4096 .f32) : FVec F S128x128x4096 .f32 :=
  mulf w (broadcastTo S128x128x4096 (shapeCast S128x1x4096 (divf (broadcast S128x4096 (Scalar.ofBits .f32 0x3F800000#32)) s)
    shapeCasts_S128x4096_S128x1x4096) broadcasts_S128x1x4096_S128x128x4096)

/-- A group's codes, the gradient. -/
def codG (w : FVec F S128x128x1024 .f32) (s : FVec F S128x1024 .f32) : FVec F S16384x1024 .fp8e4m3 :=
  shapeCast S16384x1024 (truncf .fp8e4m3 (minimumf (broadcast S128x128x1024 (Scalar.ofBits .f32 0x43E00000#32))
    (maximumf (broadcast S128x128x1024 (Scalar.ofBits .f32 0xC3E00000#32))
      (mulf w (broadcastTo S128x128x1024 (shapeCast S128x1x1024 (divf (broadcast S128x1024 (Scalar.ofBits .f32 0x3F800000#32)) s)
        shapeCasts_S128x1024_S128x1x1024) broadcasts_S128x1x1024_S128x128x1024)))) bitsLt_fp8e4m3_f32)
    shapeCasts_S128x128x1024_S16384x1024

/-- The forward operand's quotients are that stage. -/
theorem pay6_eq (v0 : Vec F S16384x4096 .fp8e4m3) (v4 : Vec F S16384x32 .f32) :
    k0_pay6 v0 v4 = divX (k0_pay4 v0 v4) (k0_pay5 v0 v4) := rfl

/-- The gradient's codes are that stage. -/
theorem pay10_eq (v12 : FVec F S16384x1024 .f32) : k0_pay10 v12 = codG (k0_pay8 v12) (k0_pay9 v12) := rfl

end

/-- A code of the forward operand from its value and its scale. -/
theorem codeX_step (w : FVec Ideal S128x128x4096 .f32) (s : FVec Ideal S128x4096 .f32) (j : S16384x4096.Idx) (h : (j 0).val < 16384) :
    k0_pay7 (divX w s) (Scalar.ofBits .f32 0xC3E00000#32) j
      = min (Ideal.ofBits .f32 0x43E00000#32) (max (Ideal.ofBits .f32 0xC3E00000#32)
          (w (ix3 ⟨(j 0).val / 128, by omega⟩ ⟨(j 0).val % 128, by omega⟩ (j 1))
            * Ideal.div (Ideal.ofBits .f32 0x3F800000#32) (s (ix2 ⟨(j 0).val / 128, by omega⟩ (j 1))))) := by
  pointwise [k0_pay7, divX]

/-- A code of the gradient from its value and its scale. -/
theorem codeG_step (w : FVec Ideal S128x128x1024 .f32) (s : FVec Ideal S128x1024 .f32) (j : S16384x1024.Idx) (h : (j 0).val < 16384) :
    codG w s j
      = min (Ideal.ofBits .f32 0x43E00000#32) (max (Ideal.ofBits .f32 0xC3E00000#32)
          (w (ix3 ⟨(j 0).val / 128, by omega⟩ ⟨(j 0).val % 128, by omega⟩ (j 1))
            * Ideal.div (Ideal.ofBits .f32 0x3F800000#32) (s (ix2 ⟨(j 0).val / 128, by omega⟩ (j 1))))) := by
  pointwise [codG]

variable (v0 : Vec Ideal S16384x4096 .fp8e4m3) (v4 : Vec Ideal S16384x32 .f32) (v12 : FVec Ideal S16384x1024 .f32)

/-- The widened forward operand. -/
theorem pay4_apply (j : S128x128x4096.Idx) :
    k0_pay4 v0 v4 j = wideX (a := 16384) (b := 4096) (k := 32) v0 v4 (128 * (j 0).val + (j 1).val) (j 2).val := by
  have h0 : (j 0).val < 128 := (j 0).isLt
  have h1 : (j 1).val < 128 := (j 1).isLt
  have h2 : (j 2).val < 4096 := (j 2).isLt
  have e : k0_pay4 v0 v4 j = v0 (ix2 ⟨(j 0).val * 128 + (j 1).val, by omega⟩ (j 2)) * v4 (ix2 ⟨(j 0).val * 128 + (j 1).val, by omega⟩ ⟨(j 2).val / 128, by omega⟩) := by
    pointwise [k0_pay4]
  rw [e]
  unfold wideX
  rw [at2_of _ (by omega) h2, at2_of _ (by omega) (by omega)]
  simp only [Nat.mul_comm 128]
  rfl

/-- The gradient in groups. -/
theorem pay8_apply (j : S128x128x1024.Idx) :
    k0_pay8 v12 j = at2 (a := 16384) (b := 1024) v12 (128 * (j 0).val + (j 1).val) (j 2).val := by
  have h0 : (j 0).val < 128 := (j 0).isLt
  have h1 : (j 1).val < 128 := (j 1).isLt
  have h2 : (j 2).val < 1024 := (j 2).isLt
  have e : k0_pay8 v12 j = v12 (ix2 ⟨(j 0).val * 128 + (j 1).val, by omega⟩ (j 2)) := by
    pointwise [k0_pay8]
  rw [e, at2_of _ (by omega) h2]
  simp only [Nat.mul_comm 128]
  rfl

/-- The forward operand's scales. -/
theorem pay5_apply (j : S128x4096.Idx) :
    k0_pay5 v0 v4 j = scl (wideX (a := 16384) (b := 4096) (k := 32) v0 v4) (j 0).val (j 1).val := by
  rw [pay5_eq]
  refine (sStage_apply _ _ _ _ _ _ _ j fun x => above_4096 _ _ _ _ _ _ x j).trans ?_
  unfold scl grpT
  refine congrArg rScale ((tStage_apply _ _ j).trans (congrArg colT (funext fun i => ?_)))
  exact pay4_apply v0 v4 (ix3 (j 0) i (j 1))

/-- The gradient's scales. -/
theorem pay9_apply (j : S128x1024.Idx) :
    k0_pay9 v12 j = scl (at2 (a := 16384) (b := 1024) v12) (j 0).val (j 1).val := by
  rw [pay9_eq]
  refine (sStage_apply _ _ _ _ _ _ _ j fun x => above_1024 _ _ _ _ _ _ x j).trans ?_
  unfold scl grpT
  refine congrArg rScale ((tStage_apply _ _ j).trans (congrArg colT (funext fun i => ?_)))
  exact pay8_apply v12 (ix3 (j 0) i (j 1))

/-- The forward operand's codes. -/
theorem codeX_apply (j : S16384x4096.Idx) : k0_pay7 (k0_pay6 v0 v4) (Scalar.ofBits .f32 0xC3E00000#32) j = code (wideX (a := 16384) (b := 4096) (k := 32) v0 v4) (j 0).val (j 1).val := by
  have h : (j 0).val < 16384 := (j 0).isLt
  have e1 : Ideal.ofBits .f32 0x3F800000#32 = 1 := by simp
  have k4 : k0_pay4 v0 v4 (ix3 ⟨(j 0).val / 128, by omega⟩ ⟨(j 0).val % 128, by omega⟩ (j 1)) = wideX (a := 16384) (b := 4096) (k := 32) v0 v4 (j 0).val (j 1).val :=
    (pay4_apply v0 v4 _).trans (congrArg (fun r => wideX (a := 16384) (b := 4096) (k := 32) v0 v4 r (j 1).val) (Nat.div_add_mod (j 0).val 128))
  have k5 : k0_pay5 v0 v4 (ix2 ⟨(j 0).val / 128, by omega⟩ (j 1)) = rScale (grpT (wideX (a := 16384) (b := 4096) (k := 32) v0 v4) ((j 0).val / 128) (j 1).val) := pay5_apply v0 v4 _
  rw [pay6_eq, codeX_step _ _ j h, k4, k5, e1]
  unfold code qcode
  exact rfl

/-- The gradient's codes. -/
theorem codeG_apply (j : S16384x1024.Idx) : k0_pay10 v12 j = code (at2 (a := 16384) (b := 1024) v12) (j 0).val (j 1).val := by
  have h : (j 0).val < 16384 := (j 0).isLt
  have e1 : Ideal.ofBits .f32 0x3F800000#32 = 1 := by simp
  have k4 : k0_pay8 v12 (ix3 ⟨(j 0).val / 128, by omega⟩ ⟨(j 0).val % 128, by omega⟩ (j 1)) = at2 (a := 16384) (b := 1024) v12 (j 0).val (j 1).val :=
    (pay8_apply v12 _).trans (congrArg (fun r => at2 (a := 16384) (b := 1024) v12 r (j 1).val) (Nat.div_add_mod (j 0).val 128))
  have k5 : k0_pay9 v12 (ix2 ⟨(j 0).val / 128, by omega⟩ (j 1)) = rScale (grpT (at2 (a := 16384) (b := 1024) v12) ((j 0).val / 128) (j 1).val) := pay9_apply v12 _
  rw [pay10_eq, codeG_step _ _ j h, k4, k5, e1]
  unfold code qcode
  exact rfl

/-- The forward operand's scales, four groups to a step. -/
theorem pay11_apply (w : FVec Ideal S128x4096 .f32) (j : S32x4x4096.Idx) :
    k0_pay11 w j = w (ix2 ⟨(j 0).val * 4 + (j 1).val, by have := (j 0).isLt; have := (j 1).isLt; simp at *; omega⟩ (j 2)) := by
  pointwise [k0_pay11]

/-- The gradient's scales, four groups to a step. -/
theorem pay1_apply (w : FVec Ideal S128x1024 .f32) (j : S32x4x1024.Idx) :
    k0_pay1 w j = w (ix2 ⟨(j 0).val * 4 + (j 1).val, by have := (j 0).isLt; have := (j 1).isLt; simp at *; omega⟩ (j 2)) := by
  pointwise [k0_pay1]

/-- The product of codes times scales over all rows. -/
theorem pay2_apply (v38 : FVec Ideal S128x4096 .f32) (v49 : FVec Ideal S16384x4096 .fp8e4m3) (v75 : FVec Ideal S128x1024 .f32)
    (v86 : FVec Ideal S16384x1024 .fp8e4m3) (j : S4096x1024.Idx) :
    k0_pay2 v38 v49 v75 v86 j = ∑ x : Fin 16384, v49 (ix2 x (j 0)) * v38 (ix2 ⟨x.val / 128, by have := x.isLt; omega⟩ (j 0))
      * (v86 (ix2 x (j 1)) * v75 (ix2 ⟨x.val / 128, by have := x.isLt; omega⟩ (j 1))) := by
  pointwise [k0_pay2]

end Cert.Ref
-- ==== Proof.Ref.Arrays.lean ====
module

public import proofs.«01_k».proof.Proof.Ref.Read
public import proofs.«01_k».proof.Proof.Gen.ReferenceIdeal.Frame
public import Idealize.ShloMosaic.Lib.Pipeline.ValueKit

@[expose] public section

noncomputable section

/-! The reference's five result arrays. -/

namespace Cert.ReferenceSide

open Cert.ReferenceIdeal Cert.ReferenceIdeal.Gen Cert.Quant Cert.Ref Idealize.ShloMosaic Idealize.ShloMosaic.TcCoe Idealize.SL.Sem

section
variable (x0 : Vec Ideal S16384x4096 .fp8e4m3) (x1 : Vec Ideal S16384x32 .f32) (x2 : Vec Ideal S16384x1024 .bf16)

/-- The whole of the codes is loaded, -/
theorem ld0 : View.ld (Val := Elt Ideal) x0 r0_0 = x0 := View.ld_unit_lit _ x0 (by decide)

/-- of the scales, -/
theorem ld1 : View.ld (Val := Elt Ideal) x1 r0_1 = x1 := View.ld_unit_lit _ x1 (by decide)

/-- and of the gradient, -/
theorem ld2 : View.ld (Val := Elt Ideal) x2 r0_2 = x2 := View.ld_unit_lit _ x2 (by decide)

/-- which is widened to itself. -/
theorem pay3_eq (v : Vec Ideal S16384x1024 .bf16) : k0_pay3 v = v := by
  funext j
  pointwise [k0_pay3]

/-- The gradient as the body uses it. -/
theorem pay12_eq : k0_pay12 x0 x1 x2 = x2 := by
  unfold k0_pay12
  rw [ld2, pay3_eq]

/-- The forward operand's scales at a place. -/
theorem pay13_apply (j : S128x4096.Idx) :
    k0_pay13 x0 x1 x2 j = scl (wideX (a := 16384) (b := 4096) (k := 32) x0 x1) (j 0).val (j 1).val := by
  unfold k0_pay13
  rw [ld0, ld1, pay5_apply]

/-- The gradient's scales at a place. -/
theorem pay15_apply (j : S128x1024.Idx) :
    k0_pay15 x0 x1 x2 j = scl (at2 (a := 16384) (b := 1024) x2) (j 0).val (j 1).val := by
  unfold k0_pay15
  rw [pay12_eq, pay9_apply]

/-- The forward operand's codes at a place. -/
theorem pay14_apply (j : S16384x4096.Idx) : k0_pay7 (k0_pay14 x0 x1 x2) (Scalar.ofBits .f32 0xC3E00000#32) j
    = code (wideX (a := 16384) (b := 4096) (k := 32) x0 x1) (j 0).val (j 1).val := by
  unfold k0_pay14
  rw [ld0, ld1, codeX_apply]

/-- The gradient's codes at a place. -/
theorem pay16_apply (j : S16384x1024.Idx) :
    k0_pay16 x0 x1 x2 j = code (at2 (a := 16384) (b := 1024) x2) (j 0).val (j 1).val := by
  unfold k0_pay16
  rw [pay12_eq, codeG_apply]

/-- The body leaves the product over all rows, -/
theorem out3 (y : S4096x1024.Idx) : out0_3 x0 x1 x2 y
    = dotRows (wideX (a := 16384) (b := 4096) (k := 32) x0 x1) (at2 (a := 16384) (b := 1024) x2) 16384 (y 0).val (y 1).val := by
  have e : out0_3 x0 x1 x2 = k0_pay2 (k0_pay13 x0 x1 x2) (k0_pay7 (k0_pay14 x0 x1 x2) (Scalar.ofBits .f32 0xC3E00000#32)) (k0_pay15 x0 x1 x2) (k0_pay16 x0 x1 x2) :=
    View.canon_cons_unit_lit _ _ _ (by decide)
  rw [e, pay2_apply]
  unfold dotRows deq
  rw [Finset.sum_range]
  refine Finset.sum_congr rfl fun x _ => ?_
  rw [pay14_apply, pay13_apply, pay16_apply, pay15_apply]
  exact rfl

/-- the forward operand's codes, -/
theorem out4 (y : S16384x4096.Idx) : out0_4 x0 x1 x2 y
    = code (wideX (a := 16384) (b := 4096) (k := 32) x0 x1) (y 0).val (y 1).val := by
  have e : out0_4 x0 x1 x2 = k0_pay7 (k0_pay14 x0 x1 x2) (Scalar.ofBits .f32 0xC3E00000#32) := View.canon_cons_unit_lit _ _ _ (by decide)
  rw [e, pay14_apply]

/-- its scales, -/
theorem out5 (y : S32x4x4096.Idx) : out0_5 x0 x1 x2 y
    = scl (wideX (a := 16384) (b := 4096) (k := 32) x0 x1) (4 * (y 0).val + (y 1).val) (y 2).val := by
  have e : out0_5 x0 x1 x2 = k0_pay11 (k0_pay13 x0 x1 x2) := View.canon_cons_unit_lit _ _ _ (by decide)
  rw [e, pay11_apply, pay13_apply, Nat.mul_comm 4]
  exact rfl

/-- the gradient's codes, -/
theorem out6 (y : S16384x1024.Idx) : out0_6 x0 x1 x2 y = code (at2 (a := 16384) (b := 1024) x2) (y 0).val (y 1).val := by
  have e : out0_6 x0 x1 x2 = k0_pay16 x0 x1 x2 := View.canon_cons_unit_lit _ _ _ (by decide)
  rw [e, pay16_apply]

/-- and its scales. -/
theorem out7 (y : S32x4x1024.Idx) : out0_7 x0 x1 x2 y
    = scl (at2 (a := 16384) (b := 1024) x2) (4 * (y 0).val + (y 1).val) (y 2).val := by
  have e : out0_7 x0 x1 x2 = k0_pay1 (k0_pay15 x0 x1 x2) := View.canon_cons_unit_lit _ _ _ (by decide)
  rw [e, pay1_apply, pay15_apply, Nat.mul_comm 4]
  exact rfl

end

variable (m : (ℓ : Loc nD τ sig) → Buf (Elt Ideal) ℓ) (c : Dev nD)

/-- The forward operand widened. -/
def X : ℕ → ℕ → EReal :=
  wideX (a := 16384) (b := 4096) (k := 32) (V m c main_v0 : S16384x4096.Idx → EReal) (V m c main_v1 : S16384x32.Idx → EReal)

/-- The gradient. -/
def G : ℕ → ℕ → EReal := at2 (a := 16384) (b := 1024) (V m c main_v2 : S16384x1024.Idx → EReal)

/-- Every window's block is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0, 0]
    ∧ win0_6.index t = ![0, 0] ∧ win0_7.index t = ![0, 0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0, 0]
    ∧ win0_6.index t = ![0, 0] ∧ win0_7.index t = ![0, 0, 0])

/-- The codes it reads are the whole array. -/
theorem blk0 (t : Fin cfg0.N) (y : S16384x4096.Idx) : iblk m c 0 t y = (V m c main_v0 : S16384x4096.Idx → EReal) y := by
  blk_ext [iblk, idx t]

/-- So are the scales, -/
theorem blk1 (t : Fin cfg0.N) (y : S16384x32.Idx) : iblk m c 1 t y = (V m c main_v1 : S16384x32.Idx → EReal) y := by
  blk_ext [iblk, idx t]

/-- and the gradient. -/
theorem blk2 (t : Fin cfg0.N) (y : S16384x1024.Idx) : iblk m c 2 t y = (V m c main_v2 : S16384x1024.Idx → EReal) y := by
  blk_ext [iblk, idx t]

/-- The weights' gradient: the product over all 16384 rows. -/
theorem final3 : ((dats m 0 c).arrAt 3 cfg0.N : S4096x1024.Idx → EReal)
    = fun y => dotRows (X m c) (G m c) 16384 (y 0).val (y 1).val := by
  refine (dats m 0 c).arrAt_eq_of_covers 3 _ (by decide +kernel) fun t hf y => ?_
  blk_simp [idx t]
  rw [after0_3, funext (blk0 m c t), funext (blk1 m c t), funext (blk2 m c t), out3]
  exact rfl

/-- The forward operand's codes. -/
theorem final4 : ((dats m 0 c).arrAt 4 cfg0.N : S16384x4096.Idx → EReal)
    = fun y => code (X m c) (y 0).val (y 1).val := by
  refine (dats m 0 c).arrAt_eq_of_covers 4 _ (by decide +kernel) fun t hf y => ?_
  blk_simp [idx t]
  rw [after0_4, funext (blk0 m c t), funext (blk1 m c t), out4]
  exact rfl

/-- The forward operand's scales. -/
theorem final5 : ((dats m 0 c).arrAt 5 cfg0.N : S32x4x4096.Idx → EReal)
    = fun y => scl (X m c) (4 * (y 0).val + (y 1).val) (y 2).val := by
  refine (dats m 0 c).arrAt_eq_of_covers 5 _ (by decide +kernel) fun t hf y => ?_
  blk_simp [idx t]
  rw [after0_5, funext (blk0 m c t), funext (blk1 m c t), out5]
  exact rfl

/-- The gradient's codes. -/
theorem final6 : ((dats m 0 c).arrAt 6 cfg0.N : S16384x1024.Idx → EReal)
    = fun y => code (G m c) (y 0).val (y 1).val := by
  refine (dats m 0 c).arrAt_eq_of_covers 6 _ (by decide +kernel) fun t hf y => ?_
  blk_simp [idx t]
  rw [after0_6, funext (blk2 m c t), out6]
  exact rfl

/-- The gradient's scales. -/
theorem final7 : ((dats m 0 c).arrAt 7 cfg0.N : S32x4x1024.Idx → EReal)
    = fun y => scl (G m c) (4 * (y 0).val + (y 1).val) (y 2).val := by
  refine (dats m 0 c).arrAt_eq_of_covers 7 _ (by decide +kernel) fun t hf y => ?_
  blk_simp [idx t]
  rw [after0_7, funext (blk2 m c t), out7]
  exact rfl

end Cert.ReferenceSide
-- ==== Proof.Ref.Run.lean ====
module

public import proofs.«01_k».proof.Proof.Gen.ReferenceIdeal.Frame
public import Idealize.ShloMosaic.Lib.ValueIdx
public import Idealize.ShloMosaic.PureOps.Ideal

@[expose] public section

noncomputable section

/-! The reference's run: what its five result arrays and its arguments hold after it. -/

namespace Cert.ReferenceSide

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- After the reference's run each result array is its output window's array, and the arguments are as launched. -/
theorem run_blocks : θ_run defs (onTc (τ := τ) (main (F := Ideal))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_v3_2) = (dats m 0 c).arrAt 5 cfg0.N
      ∧ r.2.mem ((c : Thread nD τ).loc main_v3_3) = (dats m 0 c).arrAt 6 cfg0.N
      ∧ r.2.mem ((c : Thread nD τ).loc main_v3_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5, (h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceSide
-- ==== Proof.Equation.Algebraic.lean ====
module

public import proofs.«01_k».proof.Defs
public import proofs.«01_k».proof.Proof.Kernel.Arrays
public import proofs.«01_k».proof.Proof.Ref.Arrays
public import proofs.«01_k».proof.Proof.Ref.Run

@[expose] public section

noncomputable section

/-! The kernel and the reference leave the same five arrays. -/

namespace Cert.Equation

open Cert.Quant Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- From equal codes and scales both programs' calls find the same widened forward operand. -/
theorem X_eq
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1)) :
    ReferenceSide.X m' c = KernelSide.X m c := by
  have e0 : (ReferenceIdeal.Gen.V m' c ReferenceIdeal.main_v0 : ReferenceIdeal.S16384x4096.Idx → EReal) = KernelIdeal.Gen.V m c KernelIdeal.main_v0 := by
    entry_read
    rw [h0]
    rfl
  have e1 : (ReferenceIdeal.Gen.V m' c ReferenceIdeal.main_v1 : ReferenceIdeal.S16384x32.Idx → EReal) = KernelIdeal.Gen.V m c KernelIdeal.main_v1 := by
    entry_read
    rw [h1]
    rfl
  unfold ReferenceSide.X KernelSide.X
  rw [e0, e1]

/-- From equal gradients both calls find the same gradient. -/
theorem G_eq
    (h2 : m' ((c.tc : Thread ReferenceIdeal.nD ReferenceIdeal.τ).loc ReferenceIdeal.main_arg2) = m ((c.tc : Thread KernelIdeal.nD KernelIdeal.τ).loc KernelIdeal.main_arg2)) :
    ReferenceSide.G m' c = KernelSide.G m c := by
  have e2 : (ReferenceIdeal.Gen.V m' c ReferenceIdeal.main_v2 : ReferenceIdeal.S16384x1024.Idx → EReal) = KernelIdeal.Gen.V m c KernelIdeal.main_v2 := by
    entry_read
    rw [h2]
    rfl
  unfold ReferenceSide.G KernelSide.G
  rw [e2]

/-- Both programs run and leave the same product, codes and scales, and their arguments as launched. -/
theorem algebraic : algebraic_KernelIdeal_ReferenceIdeal (hKernelIdeal := KernelIdeal.Gen.facts) (hReferenceIdeal := ReferenceIdeal.Gen.facts) := by
  intro m g m' g' _ h
  have hX : ∀ c, ReferenceSide.X m' c = KernelSide.X m c := fun c => X_eq m m' c (h c).1 (h c).2.1
  have hG : ∀ c, ReferenceSide.G m' c = KernelSide.G m c := fun c => G_eq m m' c (h c).2.2
  refine ⟨_, _, _, _, _, KernelIdeal.Value.run_blocks m g, (θ_run _ _ _).mono (fun r hr c => ?_) (ReferenceSide.run_blocks m' g')⟩
  have q := hr c
  refine ⟨q.1.trans ?_, q.2.1.trans ?_, q.2.2.1.trans ?_, q.2.2.2.1.trans ?_, q.2.2.2.2.1.trans ?_, q.2.2.2.2.2⟩
  · exact (ReferenceSide.final3 m' c).trans ((congrArg₂ (fun A B => fun y : KernelIdeal.S4096x1024.Idx => dotRows A B 16384 (y 0).val (y 1).val) (hX c) (hG c)).trans (KernelSide.final3 m c).symm)
  · exact (ReferenceSide.final4 m' c).trans ((congrArg (fun A => fun y : KernelIdeal.S16384x4096.Idx => code A (y 0).val (y 1).val) (hX c)).trans (KernelSide.final4 m c).symm)
  · exact (ReferenceSide.final5 m' c).trans ((congrArg (fun A => fun y : KernelIdeal.S32x4x4096.Idx => scl A (4 * (y 0).val + (y 1).val) (y 2).val) (hX c)).trans (KernelSide.final5 m c).symm)
  · exact (ReferenceSide.final6 m' c).trans ((congrArg (fun A => fun y : KernelIdeal.S16384x1024.Idx => code A (y 0).val (y 1).val) (hG c)).trans (KernelSide.final6 m c).symm)
  · exact (ReferenceSide.final7 m' c).trans ((congrArg (fun A => fun y : KernelIdeal.S32x4x1024.Idx => scl A (4 * (y 0).val + (y 1).val) (y 2).val) (hG c)).trans (KernelSide.final7 m c).symm)

end Cert.Equation
-- ==== Proof.lean ====
/- The certificate: the three frames are the generated ones; the equation of the kernel and the reference over the
   extended reals is Proof/Equation/Algebraic.lean. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Equation.Algebraic

@[expose] public section

/-- Kernel, ideal kernel and reference run without fault and keep their arguments; the ideal kernel is the kernel over the
    extended reals; and there it leaves the same five arrays as the reference. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Equation.algebraic⟩
